-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v314)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v314) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x12x207x2 : Shape := ⟨4, ![32, 12, 207, 2]⟩
abbrev S32 : Shape := ⟨1, ![32]⟩
abbrev S1x207x207 : Shape := ⟨3, ![1, 207, 207]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S64x5 : Shape := ⟨2, ![64, 5]⟩
abbrev S5 : Shape := ⟨1, ![5]⟩
abbrev S16x2x12x207x2 : Shape := ⟨5, ![16, 2, 12, 207, 2]⟩
abbrev S12x2x2x16x207 : Shape := ⟨5, ![12, 2, 2, 16, 207]⟩
abbrev S_ : Shape := ⟨0, ![]⟩
abbrev S12x2x2x16x208 : Shape := ⟨5, ![12, 2, 2, 16, 208]⟩
abbrev S12x4x3328 : Shape := ⟨3, ![12, 4, 3328]⟩
abbrev S207x207 : Shape := ⟨2, ![207, 207]⟩
abbrev S208x208 : Shape := ⟨2, ![208, 208]⟩
abbrev S66x3x128 : Shape := ⟨3, ![66, 3, 128]⟩
abbrev S3x66x128 : Shape := ⟨3, ![3, 66, 128]⟩
abbrev S3x2x128 : Shape := ⟨3, ![3, 2, 128]⟩
abbrev S3x64x128 : Shape := ⟨3, ![3, 64, 128]⟩
abbrev S66x3x64 : Shape := ⟨3, ![66, 3, 64]⟩
abbrev S3x66x64 : Shape := ⟨3, ![3, 66, 64]⟩
abbrev S3x2x64 : Shape := ⟨3, ![3, 2, 64]⟩
abbrev S3x64x64 : Shape := ⟨3, ![3, 64, 64]⟩
abbrev S128x3x128 : Shape := ⟨3, ![128, 3, 128]⟩
abbrev S3x128x128 : Shape := ⟨3, ![3, 128, 128]⟩
abbrev S128x3x64 : Shape := ⟨3, ![128, 3, 64]⟩
abbrev S3x128x64 : Shape := ⟨3, ![3, 128, 64]⟩
abbrev S2x2 : Shape := ⟨2, ![2, 2]⟩
abbrev S1x64x128 : Shape := ⟨3, ![1, 64, 128]⟩
abbrev S64x128 : Shape := ⟨2, ![64, 128]⟩
abbrev S64x2x64 : Shape := ⟨3, ![64, 2, 64]⟩
abbrev S1x64x2x1x64 : Shape := ⟨5, ![1, 64, 2, 1, 64]⟩
abbrev S2x1x1x2x1 : Shape := ⟨5, ![2, 1, 1, 2, 1]⟩
abbrev S2x64x2x2x64 : Shape := ⟨5, ![2, 64, 2, 2, 64]⟩
abbrev S128x256 : Shape := ⟨2, ![128, 256]⟩
abbrev S128x128 : Shape := ⟨2, ![128, 128]⟩
abbrev S128x384 : Shape := ⟨2, ![128, 384]⟩
abbrev S1x2x128 : Shape := ⟨3, ![1, 2, 128]⟩
abbrev S2x128 : Shape := ⟨2, ![2, 128]⟩
abbrev S2x2x64 : Shape := ⟨3, ![2, 2, 64]⟩
abbrev S1x2x2x1x64 : Shape := ⟨5, ![1, 2, 2, 1, 64]⟩
abbrev S2x2x2x2x64 : Shape := ⟨5, ![2, 2, 2, 2, 64]⟩
abbrev S4x256 : Shape := ⟨2, ![4, 256]⟩
abbrev S1x2x64 : Shape := ⟨3, ![1, 2, 64]⟩
abbrev S2x64 : Shape := ⟨2, ![2, 64]⟩
abbrev S1x2x1x64 : Shape := ⟨4, ![1, 2, 1, 64]⟩
abbrev S2x1x2x1 : Shape := ⟨4, ![2, 1, 2, 1]⟩
abbrev S2x2x2x64 : Shape := ⟨4, ![2, 2, 2, 64]⟩
abbrev S4x128 : Shape := ⟨2, ![4, 128]⟩
abbrev S4x384 : Shape := ⟨2, ![4, 384]⟩
abbrev S132x384 : Shape := ⟨2, ![132, 384]⟩
abbrev S1x64x64 : Shape := ⟨3, ![1, 64, 64]⟩
abbrev S64x64 : Shape := ⟨2, ![64, 64]⟩
abbrev S1x64x1x64 : Shape := ⟨4, ![1, 64, 1, 64]⟩
abbrev S2x64x2x64 : Shape := ⟨4, ![2, 64, 2, 64]⟩
abbrev S256x384 : Shape := ⟨2, ![256, 384]⟩
abbrev S1x132x384 : Shape := ⟨3, ![1, 132, 384]⟩
abbrev S3x132x384 : Shape := ⟨3, ![3, 132, 384]⟩
abbrev S1x128x128 : Shape := ⟨3, ![1, 128, 128]⟩
abbrev S1x256x384 : Shape := ⟨3, ![1, 256, 384]⟩
abbrev S3x256x384 : Shape := ⟨3, ![3, 256, 384]⟩
abbrev S1x64x1x5 : Shape := ⟨4, ![1, 64, 1, 5]⟩
abbrev S2x64x2x5 : Shape := ⟨4, ![2, 64, 2, 5]⟩
abbrev S128x10 : Shape := ⟨2, ![128, 10]⟩
abbrev S1x5 : Shape := ⟨2, ![1, 5]⟩
abbrev S2x5 : Shape := ⟨2, ![2, 5]⟩
abbrev S1x10 : Shape := ⟨2, ![1, 10]⟩
abbrev S12 : Shape := ⟨1, ![12]⟩
abbrev S12x1 : Shape := ⟨2, ![12, 1]⟩
abbrev S1x32 : Shape := ⟨2, ![1, 32]⟩
abbrev S12x32 : Shape := ⟨2, ![12, 32]⟩
abbrev S12x16x2x1 : Shape := ⟨4, ![12, 16, 2, 1]⟩
abbrev S12x16x2x1x64 : Shape := ⟨5, ![12, 16, 2, 1, 64]⟩
abbrev S12x16x2x64 : Shape := ⟨4, ![12, 16, 2, 64]⟩
abbrev S12x16x128 : Shape := ⟨3, ![12, 16, 128]⟩
abbrev S2x1x64 : Shape := ⟨3, ![2, 1, 64]⟩
abbrev S1x256 : Shape := ⟨2, ![1, 256]⟩
abbrev S1x64 : Shape := ⟨2, ![1, 64]⟩
abbrev S1x128 : Shape := ⟨2, ![1, 128]⟩
abbrev S16x10 : Shape := ⟨2, ![16, 10]⟩
abbrev S1x208x208 : Shape := ⟨3, ![1, 208, 208]⟩
abbrev S16x208x208 : Shape := ⟨3, ![16, 208, 208]⟩
abbrev S16x208x128 : Shape := ⟨3, ![16, 208, 128]⟩
abbrev S1x4x3328 : Shape := ⟨3, ![1, 4, 3328]⟩
abbrev S4x3328 : Shape := ⟨2, ![4, 3328]⟩
abbrev S3328x4 : Shape := ⟨2, ![3328, 4]⟩
abbrev S16x208x4 : Shape := ⟨3, ![16, 208, 4]⟩
abbrev S16x208x132 : Shape := ⟨3, ![16, 208, 132]⟩
abbrev S16x208x384 : Shape := ⟨3, ![16, 208, 384]⟩
abbrev S16x208x256 : Shape := ⟨3, ![16, 208, 256]⟩
abbrev S1x1x256 : Shape := ⟨3, ![1, 1, 256]⟩
abbrev S1x1x128 : Shape := ⟨3, ![1, 1, 128]⟩
abbrev S1x16x128 : Shape := ⟨3, ![1, 16, 128]⟩
abbrev S16x128 : Shape := ⟨2, ![16, 128]⟩
abbrev S16x1x128 : Shape := ⟨3, ![16, 1, 128]⟩
abbrev S16x208x10 : Shape := ⟨3, ![16, 208, 10]⟩
abbrev S1x1x10 : Shape := ⟨3, ![1, 1, 10]⟩
abbrev S16x207x10 : Shape := ⟨3, ![16, 207, 10]⟩
abbrev S32x5 : Shape := ⟨2, ![32, 5]⟩

abbrev nBuf : Space → Nat
  | .hbm => 347
  | .vmem => 14
  | .smem => 0
  | _ => 0

abbrev hbmTy0_0 (i : Nat) : BufTy := match i % 128 with
  | 0 => ⟨S32x12x207x2, .f32⟩
  | 1 => ⟨S32, .i32⟩
  | 2 => ⟨S1x207x207, .f32⟩
  | 3 => ⟨S198x128, .f32⟩
  | 4 => ⟨S128, .f32⟩
  | 5 => ⟨S198x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x5, .f32⟩
  | 12 => ⟨S5, .f32⟩
  | 13 => ⟨S16x2x12x207x2, .f32⟩
  | 14 => ⟨S12x2x2x16x207, .f32⟩
  | 15 => ⟨S_, .i32⟩
  | 16 => ⟨S_, .f32⟩
  | 17 => ⟨S12x2x2x16x208, .f32⟩
  | 18 => ⟨S12x4x3328, .f32⟩
  | 19 => ⟨S207x207, .f32⟩
  | 20 => ⟨S_, .i32⟩
  | 21 => ⟨S_, .f32⟩
  | 22 => ⟨S208x208, .f32⟩
  | 23 => ⟨S66x3x128, .f32⟩
  | 24 => ⟨S3x66x128, .f32⟩
  | 25 => ⟨S3x2x128, .f32⟩
  | 26 => ⟨S3x64x128, .f32⟩
  | 27 => ⟨S66x3x64, .f32⟩
  | 28 => ⟨S3x66x64, .f32⟩
  | 29 => ⟨S3x2x64, .f32⟩
  | 30 => ⟨S3x64x64, .f32⟩
  | 31 => ⟨S128x3x128, .f32⟩
  | 32 => ⟨S3x128x128, .f32⟩
  | 33 => ⟨S3x64x128, .f32⟩
  | 34 => ⟨S3x64x128, .f32⟩
  | 35 => ⟨S128x3x64, .f32⟩
  | 36 => ⟨S3x128x64, .f32⟩
  | 37 => ⟨S3x64x64, .f32⟩
  | 38 => ⟨S3x64x64, .f32⟩
  | 39 => ⟨S2x2, .i32⟩
  | 40 => ⟨S2x2, .i32⟩
  | 41 => ⟨S_, .i32⟩
  | 42 => ⟨S2x2, .i32⟩
  | 43 => ⟨S2x2, .i32⟩
  | 44 => ⟨S2x2, .i1⟩
  | 45 => ⟨S2x2, .f32⟩
  | 46 => ⟨S1x64x128, .f32⟩
  | 47 => ⟨S64x128, .f32⟩
  | 48 => ⟨S64x2x64, .f32⟩
  | 49 => ⟨S1x64x2x1x64, .f32⟩
  | 50 => ⟨S2x1x1x2x1, .f32⟩
  | 51 => ⟨S2x64x2x2x64, .f32⟩
  | 52 => ⟨S2x64x2x2x64, .f32⟩
  | 53 => ⟨S2x64x2x2x64, .f32⟩
  | 54 => ⟨S128x256, .f32⟩
  | 55 => ⟨S_, .f32⟩
  | 56 => ⟨S128x128, .f32⟩
  | 57 => ⟨S128x384, .f32⟩
  | 58 => ⟨S1x2x128, .f32⟩
  | 59 => ⟨S2x128, .f32⟩
  | 60 => ⟨S2x2x64, .f32⟩
  | 61 => ⟨S1x2x2x1x64, .f32⟩
  | 62 => ⟨S2x1x1x2x1, .f32⟩
  | 63 => ⟨S2x2x2x2x64, .f32⟩
  | 64 => ⟨S2x2x2x2x64, .f32⟩
  | 65 => ⟨S2x2x2x2x64, .f32⟩
  | 66 => ⟨S4x256, .f32⟩
  | 67 => ⟨S1x2x64, .f32⟩
  | 68 => ⟨S2x64, .f32⟩
  | 69 => ⟨S1x2x1x64, .f32⟩
  | 70 => ⟨S2x1x2x1, .f32⟩
  | 71 => ⟨S2x2x2x64, .f32⟩
  | 72 => ⟨S2x2x2x64, .f32⟩
  | 73 => ⟨S2x2x2x64, .f32⟩
  | 74 => ⟨S4x128, .f32⟩
  | 75 => ⟨S4x384, .f32⟩
  | 76 => ⟨S132x384, .f32⟩
  | 77 => ⟨S1x64x64, .f32⟩
  | 78 => ⟨S64x64, .f32⟩
  | 79 => ⟨S1x64x1x64, .f32⟩
  | 80 => ⟨S2x1x2x1, .f32⟩
  | 81 => ⟨S2x64x2x64, .f32⟩
  | 82 => ⟨S2x64x2x64, .f32⟩
  | 83 => ⟨S2x64x2x64, .f32⟩
  | 84 => ⟨S128x128, .f32⟩
  | 85 => ⟨S1x64x128, .f32⟩
  | 86 => ⟨S64x128, .f32⟩
  | 87 => ⟨S64x2x64, .f32⟩
  | 88 => ⟨S1x64x2x1x64, .f32⟩
  | 89 => ⟨S2x1x1x2x1, .f32⟩
  | 90 => ⟨S2x64x2x2x64, .f32⟩
  | 91 => ⟨S2x64x2x2x64, .f32⟩
  | 92 => ⟨S2x64x2x2x64, .f32⟩
  | 93 => ⟨S128x256, .f32⟩
  | 94 => ⟨S1x64x64, .f32⟩
  | 95 => ⟨S64x64, .f32⟩
  | 96 => ⟨S1x64x1x64, .f32⟩
  | 97 => ⟨S2x1x2x1, .f32⟩
  | 98 => ⟨S2x64x2x64, .f32⟩
  | 99 => ⟨S2x64x2x64, .f32⟩
  | 100 => ⟨S2x64x2x64, .f32⟩
  | 101 => ⟨S128x128, .f32⟩
  | 102 => ⟨S128x384, .f32⟩
  | 103 => ⟨S1x64x128, .f32⟩
  | 104 => ⟨S64x128, .f32⟩
  | 105 => ⟨S64x2x64, .f32⟩
  | 106 => ⟨S1x64x2x1x64, .f32⟩
  | 107 => ⟨S2x1x1x2x1, .f32⟩
  | 108 => ⟨S2x64x2x2x64, .f32⟩
  | 109 => ⟨S2x64x2x2x64, .f32⟩
  | 110 => ⟨S2x64x2x2x64, .f32⟩
  | 111 => ⟨S128x256, .f32⟩
  | 112 => ⟨S_, .f32⟩
  | 113 => ⟨S128x128, .f32⟩
  | 114 => ⟨S128x384, .f32⟩
  | 115 => ⟨S256x384, .f32⟩
  | 116 => ⟨S1x64x64, .f32⟩
  | 117 => ⟨S64x64, .f32⟩
  | 118 => ⟨S1x64x1x64, .f32⟩
  | 119 => ⟨S2x1x2x1, .f32⟩
  | 120 => ⟨S2x64x2x64, .f32⟩
  | 121 => ⟨S2x64x2x64, .f32⟩
  | 122 => ⟨S2x64x2x64, .f32⟩
  | 123 => ⟨S128x128, .f32⟩
  | 124 => ⟨S1x64x128, .f32⟩
  | 125 => ⟨S64x128, .f32⟩
  | 126 => ⟨S64x2x64, .f32⟩
  | 127 => ⟨S1x64x2x1x64, .f32⟩
  | _ => ⟨S32x12x207x2, .f32⟩

abbrev hbmTy0_1 (i : Nat) : BufTy := match i % 128 with
  | 0 => ⟨S2x1x1x2x1, .f32⟩
  | 1 => ⟨S2x64x2x2x64, .f32⟩
  | 2 => ⟨S2x64x2x2x64, .f32⟩
  | 3 => ⟨S2x64x2x2x64, .f32⟩
  | 4 => ⟨S128x256, .f32⟩
  | 5 => ⟨S_, .f32⟩
  | 6 => ⟨S128x128, .f32⟩
  | 7 => ⟨S128x384, .f32⟩
  | 8 => ⟨S1x2x128, .f32⟩
  | 9 => ⟨S2x128, .f32⟩
  | 10 => ⟨S2x2x64, .f32⟩
  | 11 => ⟨S1x2x2x1x64, .f32⟩
  | 12 => ⟨S2x1x1x2x1, .f32⟩
  | 13 => ⟨S2x2x2x2x64, .f32⟩
  | 14 => ⟨S2x2x2x2x64, .f32⟩
  | 15 => ⟨S2x2x2x2x64, .f32⟩
  | 16 => ⟨S4x256, .f32⟩
  | 17 => ⟨S1x2x64, .f32⟩
  | 18 => ⟨S2x64, .f32⟩
  | 19 => ⟨S1x2x1x64, .f32⟩
  | 20 => ⟨S2x1x2x1, .f32⟩
  | 21 => ⟨S2x2x2x64, .f32⟩
  | 22 => ⟨S2x2x2x64, .f32⟩
  | 23 => ⟨S2x2x2x64, .f32⟩
  | 24 => ⟨S4x128, .f32⟩
  | 25 => ⟨S4x384, .f32⟩
  | 26 => ⟨S132x384, .f32⟩
  | 27 => ⟨S1x64x64, .f32⟩
  | 28 => ⟨S64x64, .f32⟩
  | 29 => ⟨S1x64x1x64, .f32⟩
  | 30 => ⟨S2x1x2x1, .f32⟩
  | 31 => ⟨S2x64x2x64, .f32⟩
  | 32 => ⟨S2x64x2x64, .f32⟩
  | 33 => ⟨S2x64x2x64, .f32⟩
  | 34 => ⟨S128x128, .f32⟩
  | 35 => ⟨S1x64x128, .f32⟩
  | 36 => ⟨S64x128, .f32⟩
  | 37 => ⟨S64x2x64, .f32⟩
  | 38 => ⟨S1x64x2x1x64, .f32⟩
  | 39 => ⟨S2x1x1x2x1, .f32⟩
  | 40 => ⟨S2x64x2x2x64, .f32⟩
  | 41 => ⟨S2x64x2x2x64, .f32⟩
  | 42 => ⟨S2x64x2x2x64, .f32⟩
  | 43 => ⟨S128x256, .f32⟩
  | 44 => ⟨S1x64x64, .f32⟩
  | 45 => ⟨S64x64, .f32⟩
  | 46 => ⟨S1x64x1x64, .f32⟩
  | 47 => ⟨S2x1x2x1, .f32⟩
  | 48 => ⟨S2x64x2x64, .f32⟩
  | 49 => ⟨S2x64x2x64, .f32⟩
  | 50 => ⟨S2x64x2x64, .f32⟩
  | 51 => ⟨S128x128, .f32⟩
  | 52 => ⟨S128x384, .f32⟩
  | 53 => ⟨S1x64x128, .f32⟩
  | 54 => ⟨S64x128, .f32⟩
  | 55 => ⟨S64x2x64, .f32⟩
  | 56 => ⟨S1x64x2x1x64, .f32⟩
  | 57 => ⟨S2x1x1x2x1, .f32⟩
  | 58 => ⟨S2x64x2x2x64, .f32⟩
  | 59 => ⟨S2x64x2x2x64, .f32⟩
  | 60 => ⟨S2x64x2x2x64, .f32⟩
  | 61 => ⟨S128x256, .f32⟩
  | 62 => ⟨S_, .f32⟩
  | 63 => ⟨S128x128, .f32⟩
  | 64 => ⟨S128x384, .f32⟩
  | 65 => ⟨S256x384, .f32⟩
  | 66 => ⟨S1x64x64, .f32⟩
  | 67 => ⟨S64x64, .f32⟩
  | 68 => ⟨S1x64x1x64, .f32⟩
  | 69 => ⟨S2x1x2x1, .f32⟩
  | 70 => ⟨S2x64x2x64, .f32⟩
  | 71 => ⟨S2x64x2x64, .f32⟩
  | 72 => ⟨S2x64x2x64, .f32⟩
  | 73 => ⟨S128x128, .f32⟩
  | 74 => ⟨S1x64x128, .f32⟩
  | 75 => ⟨S64x128, .f32⟩
  | 76 => ⟨S64x2x64, .f32⟩
  | 77 => ⟨S1x64x2x1x64, .f32⟩
  | 78 => ⟨S2x1x1x2x1, .f32⟩
  | 79 => ⟨S2x64x2x2x64, .f32⟩
  | 80 => ⟨S2x64x2x2x64, .f32⟩
  | 81 => ⟨S2x64x2x2x64, .f32⟩
  | 82 => ⟨S128x256, .f32⟩
  | 83 => ⟨S_, .f32⟩
  | 84 => ⟨S128x128, .f32⟩
  | 85 => ⟨S128x384, .f32⟩
  | 86 => ⟨S1x2x128, .f32⟩
  | 87 => ⟨S2x128, .f32⟩
  | 88 => ⟨S2x2x64, .f32⟩
  | 89 => ⟨S1x2x2x1x64, .f32⟩
  | 90 => ⟨S2x1x1x2x1, .f32⟩
  | 91 => ⟨S2x2x2x2x64, .f32⟩
  | 92 => ⟨S2x2x2x2x64, .f32⟩
  | 93 => ⟨S2x2x2x2x64, .f32⟩
  | 94 => ⟨S4x256, .f32⟩
  | 95 => ⟨S1x2x64, .f32⟩
  | 96 => ⟨S2x64, .f32⟩
  | 97 => ⟨S1x2x1x64, .f32⟩
  | 98 => ⟨S2x1x2x1, .f32⟩
  | 99 => ⟨S2x2x2x64, .f32⟩
  | 100 => ⟨S2x2x2x64, .f32⟩
  | 101 => ⟨S2x2x2x64, .f32⟩
  | 102 => ⟨S4x128, .f32⟩
  | 103 => ⟨S4x384, .f32⟩
  | 104 => ⟨S132x384, .f32⟩
  | 105 => ⟨S1x64x64, .f32⟩
  | 106 => ⟨S64x64, .f32⟩
  | 107 => ⟨S1x64x1x64, .f32⟩
  | 108 => ⟨S2x1x2x1, .f32⟩
  | 109 => ⟨S2x64x2x64, .f32⟩
  | 110 => ⟨S2x64x2x64, .f32⟩
  | 111 => ⟨S2x64x2x64, .f32⟩
  | 112 => ⟨S128x128, .f32⟩
  | 113 => ⟨S1x64x128, .f32⟩
  | 114 => ⟨S64x128, .f32⟩
  | 115 => ⟨S64x2x64, .f32⟩
  | 116 => ⟨S1x64x2x1x64, .f32⟩
  | 117 => ⟨S2x1x1x2x1, .f32⟩
  | 118 => ⟨S2x64x2x2x64, .f32⟩
  | 119 => ⟨S2x64x2x2x64, .f32⟩
  | 120 => ⟨S2x64x2x2x64, .f32⟩
  | 121 => ⟨S128x256, .f32⟩
  | 122 => ⟨S1x64x64, .f32⟩
  | 123 => ⟨S64x64, .f32⟩
  | 124 => ⟨S1x64x1x64, .f32⟩
  | 125 => ⟨S2x1x2x1, .f32⟩
  | 126 => ⟨S2x64x2x64, .f32⟩
  | 127 => ⟨S2x64x2x64, .f32⟩
  | _ => ⟨S32x12x207x2, .f32⟩

abbrev hbmTy0_2 (i : Nat) : BufTy := match i % 128 with
  | 0 => ⟨S2x64x2x64, .f32⟩
  | 1 => ⟨S128x128, .f32⟩
  | 2 => ⟨S128x384, .f32⟩
  | 3 => ⟨S1x64x128, .f32⟩
  | 4 => ⟨S64x128, .f32⟩
  | 5 => ⟨S64x2x64, .f32⟩
  | 6 => ⟨S1x64x2x1x64, .f32⟩
  | 7 => ⟨S2x1x1x2x1, .f32⟩
  | 8 => ⟨S2x64x2x2x64, .f32⟩
  | 9 => ⟨S2x64x2x2x64, .f32⟩
  | 10 => ⟨S2x64x2x2x64, .f32⟩
  | 11 => ⟨S128x256, .f32⟩
  | 12 => ⟨S_, .f32⟩
  | 13 => ⟨S128x128, .f32⟩
  | 14 => ⟨S128x384, .f32⟩
  | 15 => ⟨S256x384, .f32⟩
  | 16 => ⟨S1x64x64, .f32⟩
  | 17 => ⟨S64x64, .f32⟩
  | 18 => ⟨S1x64x1x64, .f32⟩
  | 19 => ⟨S2x1x2x1, .f32⟩
  | 20 => ⟨S2x64x2x64, .f32⟩
  | 21 => ⟨S2x64x2x64, .f32⟩
  | 22 => ⟨S2x64x2x64, .f32⟩
  | 23 => ⟨S128x128, .f32⟩
  | 24 => ⟨S1x132x384, .f32⟩
  | 25 => ⟨S1x132x384, .f32⟩
  | 26 => ⟨S1x132x384, .f32⟩
  | 27 => ⟨S3x132x384, .f32⟩
  | 28 => ⟨S1x128x128, .f32⟩
  | 29 => ⟨S1x128x128, .f32⟩
  | 30 => ⟨S1x128x128, .f32⟩
  | 31 => ⟨S3x128x128, .f32⟩
  | 32 => ⟨S1x256x384, .f32⟩
  | 33 => ⟨S1x256x384, .f32⟩
  | 34 => ⟨S1x256x384, .f32⟩
  | 35 => ⟨S3x256x384, .f32⟩
  | 36 => ⟨S1x128x128, .f32⟩
  | 37 => ⟨S1x128x128, .f32⟩
  | 38 => ⟨S1x128x128, .f32⟩
  | 39 => ⟨S3x128x128, .f32⟩
  | 40 => ⟨S1x64x1x5, .f32⟩
  | 41 => ⟨S2x1x2x1, .f32⟩
  | 42 => ⟨S2x64x2x5, .f32⟩
  | 43 => ⟨S2x64x2x5, .f32⟩
  | 44 => ⟨S2x64x2x5, .f32⟩
  | 45 => ⟨S128x10, .f32⟩
  | 46 => ⟨S1x5, .f32⟩
  | 47 => ⟨S2x5, .f32⟩
  | 48 => ⟨S1x10, .f32⟩
  | 49 => ⟨S_, .i32⟩
  | 50 => ⟨S32, .i32⟩
  | 51 => ⟨S32, .i32⟩
  | 52 => ⟨S_, .i32⟩
  | 53 => ⟨S_, .i32⟩
  | 54 => ⟨S_, .i32⟩
  | 55 => ⟨S32, .i32⟩
  | 56 => ⟨S32, .i32⟩
  | 57 => ⟨S_, .i32⟩
  | 58 => ⟨S32, .i32⟩
  | 59 => ⟨S32, .i32⟩
  | 60 => ⟨S12, .i32⟩
  | 61 => ⟨S12x1, .i32⟩
  | 62 => ⟨S1x32, .i32⟩
  | 63 => ⟨S12x32, .i32⟩
  | 64 => ⟨S12x32, .i32⟩
  | 65 => ⟨S12x32, .i1⟩
  | 66 => ⟨S12x32, .f32⟩
  | 67 => ⟨S12x16x2x1, .f32⟩
  | 68 => ⟨S12x16x2x1x64, .f32⟩
  | 69 => ⟨S12x16x2x64, .f32⟩
  | 70 => ⟨S12x16x128, .f32⟩
  | 71 => ⟨S208x208, .bf16⟩
  | 72 => ⟨S3x132x384, .bf16⟩
  | 73 => ⟨S3x128x128, .bf16⟩
  | 74 => ⟨S2x1x64, .f32⟩
  | 75 => ⟨S2x2x64, .f32⟩
  | 76 => ⟨S1x256, .f32⟩
  | 77 => ⟨S1x64, .f32⟩
  | 78 => ⟨S2x64, .f32⟩
  | 79 => ⟨S1x128, .f32⟩
  | 80 => ⟨S3x256x384, .bf16⟩
  | 81 => ⟨S3x128x128, .bf16⟩
  | 82 => ⟨S2x1x64, .f32⟩
  | 83 => ⟨S2x2x64, .f32⟩
  | 84 => ⟨S1x256, .f32⟩
  | 85 => ⟨S1x64, .f32⟩
  | 86 => ⟨S2x64, .f32⟩
  | 87 => ⟨S1x128, .f32⟩
  | 88 => ⟨S128x10, .bf16⟩
  | 89 => ⟨S16x10, .f32⟩
  | 90 => ⟨S32x5, .f32⟩
  | _ => ⟨S32x12x207x2, .f32⟩

abbrev hbmTy (i : Nat) : BufTy := match i / 128 with
  | 0 => hbmTy0_0 i
  | 1 => hbmTy0_1 i
  | 2 => hbmTy0_2 i
  | _ => ⟨S32x12x207x2, .f32⟩

abbrev bufTy : (tb : Table) → Fin (tcTables nBuf tb) → BufTy
  | .hbm, ⟨i, _⟩ => hbmTy i
  | .local _ .vmem, ⟨0, _⟩ => ⟨S12x4x3328, .f32⟩
  | .local _ .vmem, ⟨1, _⟩ => ⟨S208x208, .bf16⟩
  | .local _ .vmem, ⟨2, _⟩ => ⟨S3x132x384, .bf16⟩
  | .local _ .vmem, ⟨3, _⟩ => ⟨S3x128x128, .bf16⟩
  | .local _ .vmem, ⟨4, _⟩ => ⟨S1x256, .f32⟩
  | .local _ .vmem, ⟨5, _⟩ => ⟨S1x128, .f32⟩
  | .local _ .vmem, ⟨6, _⟩ => ⟨S3x256x384, .bf16⟩
  | .local _ .vmem, ⟨7, _⟩ => ⟨S3x128x128, .bf16⟩
  | .local _ .vmem, ⟨8, _⟩ => ⟨S1x256, .f32⟩
  | .local _ .vmem, ⟨9, _⟩ => ⟨S1x128, .f32⟩
  | .local _ .vmem, ⟨10, _⟩ => ⟨S128x10, .bf16⟩
  | .local _ .vmem, ⟨11, _⟩ => ⟨S1x10, .f32⟩
  | .local _ .vmem, ⟨12, _⟩ => ⟨S12x16x128, .f32⟩
  | .local _ .vmem, ⟨13, _⟩ => ⟨S16x10, .f32⟩
  | _, _ => ⟨S32x12x207x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_call1_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_2 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_3 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_cst_4 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩
abbrev main_v183 : Ref sig .tc := ⟨.hbm, 205, rfl⟩
abbrev main_v184 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_v188 : Ref sig .tc := ⟨.hbm, 210, rfl⟩
abbrev main_cst_5 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_v225 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩
abbrev main_v234 : Ref sig .tc := ⟨.hbm, 257, rfl⟩
abbrev main_v235 : Ref sig .tc := ⟨.hbm, 258, rfl⟩
abbrev main_v236 : Ref sig .tc := ⟨.hbm, 259, rfl⟩
abbrev main_v237 : Ref sig .tc := ⟨.hbm, 260, rfl⟩
abbrev main_v238 : Ref sig .tc := ⟨.hbm, 261, rfl⟩
abbrev main_v239 : Ref sig .tc := ⟨.hbm, 262, rfl⟩
abbrev main_v240 : Ref sig .tc := ⟨.hbm, 263, rfl⟩
abbrev main_v241 : Ref sig .tc := ⟨.hbm, 264, rfl⟩
abbrev main_v242 : Ref sig .tc := ⟨.hbm, 265, rfl⟩
abbrev main_v243 : Ref sig .tc := ⟨.hbm, 266, rfl⟩
abbrev main_v244 : Ref sig .tc := ⟨.hbm, 267, rfl⟩
abbrev main_cst_6 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_c_7 : Ref sig .tc := ⟨.hbm, 305, rfl⟩
abbrev main_v281 : Ref sig .tc := ⟨.hbm, 306, rfl⟩
abbrev main_v282 : Ref sig .tc := ⟨.hbm, 307, rfl⟩
abbrev main_c_8 : Ref sig .tc := ⟨.hbm, 308, rfl⟩
abbrev main_c_9 : Ref sig .tc := ⟨.hbm, 309, rfl⟩
abbrev main_call2_v0 : Ref sig .tc := ⟨.hbm, 310, rfl⟩
abbrev main_call2_v1 : Ref sig .tc := ⟨.hbm, 311, rfl⟩
abbrev main_call2_v2 : Ref sig .tc := ⟨.hbm, 312, rfl⟩
abbrev main_call2_v3 : Ref sig .tc := ⟨.hbm, 313, rfl⟩
abbrev main_call2_v4 : Ref sig .tc := ⟨.hbm, 314, rfl⟩
abbrev main_v283 : Ref sig .tc := ⟨.hbm, 315, rfl⟩
abbrev main_v284 : Ref sig .tc := ⟨.hbm, 316, rfl⟩
abbrev main_v285 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_v298 : Ref sig .tc := ⟨.hbm, 330, rfl⟩
abbrev main_v299 : Ref sig .tc := ⟨.hbm, 331, rfl⟩
abbrev main_v300 : Ref sig .tc := ⟨.hbm, 332, rfl⟩
abbrev main_v301 : Ref sig .tc := ⟨.hbm, 333, rfl⟩
abbrev main_v302 : Ref sig .tc := ⟨.hbm, 334, rfl⟩
abbrev main_v303 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩
abbrev main_v307 : Ref sig .tc := ⟨.hbm, 339, rfl⟩
abbrev main_v308 : Ref sig .tc := ⟨.hbm, 340, rfl⟩
abbrev main_v309 : Ref sig .tc := ⟨.hbm, 341, rfl⟩
abbrev main_v310 : Ref sig .tc := ⟨.hbm, 342, rfl⟩
abbrev main_v311 : Ref sig .tc := ⟨.hbm, 343, rfl⟩
abbrev main_v312 : Ref sig .tc := ⟨.hbm, 344, rfl⟩
abbrev main_v313 : Ref sig .tc := ⟨.hbm, 345, rfl⟩
abbrev main_v314 : Ref sig .tc := ⟨.hbm, 346, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c12_i32 : BitVec 32 := 12#32
  let v39 : BitVec 32 := Scalar.addi c0_i32 c12_i32
  let c1_i32 : BitVec 32 := 1#32
  ⟨c0_i32, v39, c1_i32⟩
def k0_off1 (k0_t1 : Fin k0_t1_loop.trips) : Fin 3 → Nat :=
  let c0_i32 : BitVec 32 := 0#32
  let c1_i32 : BitVec 32 := 1#32
  let arg14 : BitVec 32 := Scf.iv c0_i32 c1_i32 k0_t1
  let v54 : Index := Scalar.indexCast arg14
  let c0_55 : Index := 0#32
  let c0_56 : Index := 0#32
  ![v54.toNat, 0, 0]
def k0_off2 (k0_t1 : Fin k0_t1_loop.trips) : Fin 3 → Nat :=
  let c0_i32 : BitVec 32 := 0#32
  let c1_i32 : BitVec 32 := 1#32
  let arg14 : BitVec 32 := Scf.iv c0_i32 c1_i32 k0_t1
  let v167 : Index := Scalar.indexCast arg14
  let c0_89 : Index := 0#32
  let c0_90 : Index := 0#32
  ![v167.toNat, 0, 0]
abbrev stage0_0 : Fin 1 → Memref sig .tc .vmem S12x4x3328 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S208x208 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x132x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x256x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x10 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S12x16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceIdeal.lean ====
abbrev S32x12x207x2 : Shape := ⟨4, ![32, 12, 207, 2]⟩
abbrev S32 : Shape := ⟨1, ![32]⟩
abbrev S1x207x207 : Shape := ⟨3, ![1, 207, 207]⟩
abbrev S198x128 : Shape := ⟨2, ![198, 128]⟩
abbrev S128 : Shape := ⟨1, ![128]⟩
abbrev S198x64 : Shape := ⟨2, ![198, 64]⟩
abbrev S64 : Shape := ⟨1, ![64]⟩
abbrev S384x128 : Shape := ⟨2, ![384, 128]⟩
abbrev S384x64 : Shape := ⟨2, ![384, 64]⟩
abbrev S64x5 : Shape := ⟨2, ![64, 5]⟩
abbrev S5 : Shape := ⟨1, ![5]⟩
abbrev S12x32x207x2 : Shape := ⟨4, ![12, 32, 207, 2]⟩
abbrev S12x32x414 : Shape := ⟨3, ![12, 32, 414]⟩
abbrev S_ : Shape := ⟨0, ![]⟩
abbrev S32x13248 : Shape := ⟨2, ![32, 13248]⟩
abbrev S12x32x13248 : Shape := ⟨3, ![12, 32, 13248]⟩
abbrev S1x32x414 : Shape := ⟨3, ![1, 32, 414]⟩
abbrev S32x414 : Shape := ⟨2, ![32, 414]⟩
abbrev S32x207x2 : Shape := ⟨3, ![32, 207, 2]⟩
abbrev S32x207x64 : Shape := ⟨3, ![32, 207, 64]⟩
abbrev S32x207x66 : Shape := ⟨3, ![32, 207, 66]⟩
abbrev S207x66x32 : Shape := ⟨3, ![207, 66, 32]⟩
abbrev S207x2112 : Shape := ⟨2, ![207, 2112]⟩
abbrev S207x207 : Shape := ⟨2, ![207, 207]⟩
abbrev S1x207x2112 : Shape := ⟨3, ![1, 207, 2112]⟩
abbrev S3x207x2112 : Shape := ⟨3, ![3, 207, 2112]⟩
abbrev S3x207x66x32 : Shape := ⟨4, ![3, 207, 66, 32]⟩
abbrev S32x207x66x3 : Shape := ⟨4, ![32, 207, 66, 3]⟩
abbrev S6624x198 : Shape := ⟨2, ![6624, 198]⟩
abbrev S6624x128 : Shape := ⟨2, ![6624, 128]⟩
abbrev S1x128 : Shape := ⟨2, ![1, 128]⟩
abbrev S32x26496 : Shape := ⟨2, ![32, 26496]⟩
abbrev S32x207x128 : Shape := ⟨3, ![32, 207, 128]⟩
abbrev S6624x64 : Shape := ⟨2, ![6624, 64]⟩
abbrev S1x64 : Shape := ⟨2, ![1, 64]⟩
abbrev S207x128x32 : Shape := ⟨3, ![207, 128, 32]⟩
abbrev S207x4096 : Shape := ⟨2, ![207, 4096]⟩
abbrev S1x207x4096 : Shape := ⟨3, ![1, 207, 4096]⟩
abbrev S3x207x4096 : Shape := ⟨3, ![3, 207, 4096]⟩
abbrev S3x207x128x32 : Shape := ⟨4, ![3, 207, 128, 32]⟩
abbrev S32x207x128x3 : Shape := ⟨4, ![32, 207, 128, 3]⟩
abbrev S6624x384 : Shape := ⟨2, ![6624, 384]⟩
abbrev S1x32x13248 : Shape := ⟨3, ![1, 32, 13248]⟩
abbrev S32x12x13248 : Shape := ⟨3, ![32, 12, 13248]⟩
abbrev S32x1 : Shape := ⟨2, ![32, 1]⟩
abbrev S32x2 : Shape := ⟨2, ![32, 2]⟩
abbrev S32x207x5 : Shape := ⟨3, ![32, 207, 5]⟩
abbrev S1x1x5 : Shape := ⟨3, ![1, 1, 5]⟩
abbrev S32x5 : Shape := ⟨2, ![32, 5]⟩

abbrev nBuf : Space → Nat
  | .hbm => 225
  | .vmem => 0
  | .smem => 0
  | _ => 0

abbrev hbmTy0_0 (i : Nat) : BufTy := match i % 128 with
  | 0 => ⟨S32x12x207x2, .f32⟩
  | 1 => ⟨S32, .i32⟩
  | 2 => ⟨S1x207x207, .f32⟩
  | 3 => ⟨S198x128, .f32⟩
  | 4 => ⟨S128, .f32⟩
  | 5 => ⟨S198x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x5, .f32⟩
  | 12 => ⟨S5, .f32⟩
  | 13 => ⟨S12x32x207x2, .f32⟩
  | 14 => ⟨S12x32x414, .f32⟩
  | 15 => ⟨S_, .f32⟩
  | 16 => ⟨S32x13248, .f32⟩
  | 17 => ⟨S_, .f32⟩
  | 18 => ⟨S12x32x13248, .f32⟩
  | 19 => ⟨S_, .i32⟩
  | 20 => ⟨S12x32x414, .f32⟩
  | 21 => ⟨S1x207x207, .f32⟩
  | 22 => ⟨S198x128, .f32⟩
  | 23 => ⟨S128, .f32⟩
  | 24 => ⟨S198x64, .f32⟩
  | 25 => ⟨S64, .f32⟩
  | 26 => ⟨S384x128, .f32⟩
  | 27 => ⟨S128, .f32⟩
  | 28 => ⟨S384x64, .f32⟩
  | 29 => ⟨S64, .f32⟩
  | 30 => ⟨S_, .i32⟩
  | 31 => ⟨S32x13248, .f32⟩
  | 32 => ⟨S32x13248, .f32⟩
  | 33 => ⟨S12x32x13248, .f32⟩
  | 34 => ⟨S_, .i32⟩
  | 35 => ⟨S_, .i1⟩
  | 36 => ⟨S_, .i32⟩
  | 37 => ⟨S_, .i32⟩
  | 38 => ⟨S1x32x414, .f32⟩
  | 39 => ⟨S32x414, .f32⟩
  | 40 => ⟨S32x207x2, .f32⟩
  | 41 => ⟨S32x207x64, .f32⟩
  | 42 => ⟨S32x207x66, .f32⟩
  | 43 => ⟨S207x66x32, .f32⟩
  | 44 => ⟨S207x2112, .f32⟩
  | 45 => ⟨S207x207, .f32⟩
  | 46 => ⟨S207x2112, .f32⟩
  | 47 => ⟨S207x2112, .f32⟩
  | 48 => ⟨S_, .f32⟩
  | 49 => ⟨S207x2112, .f32⟩
  | 50 => ⟨S207x2112, .f32⟩
  | 51 => ⟨S207x2112, .f32⟩
  | 52 => ⟨S1x207x2112, .f32⟩
  | 53 => ⟨S1x207x2112, .f32⟩
  | 54 => ⟨S1x207x2112, .f32⟩
  | 55 => ⟨S3x207x2112, .f32⟩
  | 56 => ⟨S3x207x66x32, .f32⟩
  | 57 => ⟨S32x207x66x3, .f32⟩
  | 58 => ⟨S6624x198, .f32⟩
  | 59 => ⟨S6624x128, .f32⟩
  | 60 => ⟨S1x128, .f32⟩
  | 61 => ⟨S6624x128, .f32⟩
  | 62 => ⟨S6624x128, .f32⟩
  | 63 => ⟨S32x26496, .f32⟩
  | 64 => ⟨S32x26496, .f32⟩
  | 65 => ⟨S32x26496, .f32⟩
  | 66 => ⟨S_, .f32⟩
  | 67 => ⟨S32x26496, .f32⟩
  | 68 => ⟨S32x26496, .f32⟩
  | 69 => ⟨S_, .f32⟩
  | 70 => ⟨S32x26496, .f32⟩
  | 71 => ⟨S32x26496, .f32⟩
  | 72 => ⟨S32x207x128, .f32⟩
  | 73 => ⟨S32x207x64, .f32⟩
  | 74 => ⟨S32x13248, .f32⟩
  | 75 => ⟨S32x207x64, .f32⟩
  | 76 => ⟨S32x13248, .f32⟩
  | 77 => ⟨S32x13248, .f32⟩
  | 78 => ⟨S32x207x2, .f32⟩
  | 79 => ⟨S32x207x64, .f32⟩
  | 80 => ⟨S32x207x66, .f32⟩
  | 81 => ⟨S207x66x32, .f32⟩
  | 82 => ⟨S207x2112, .f32⟩
  | 83 => ⟨S207x207, .f32⟩
  | 84 => ⟨S207x2112, .f32⟩
  | 85 => ⟨S207x2112, .f32⟩
  | 86 => ⟨S_, .f32⟩
  | 87 => ⟨S207x2112, .f32⟩
  | 88 => ⟨S207x2112, .f32⟩
  | 89 => ⟨S207x2112, .f32⟩
  | 90 => ⟨S1x207x2112, .f32⟩
  | 91 => ⟨S1x207x2112, .f32⟩
  | 92 => ⟨S1x207x2112, .f32⟩
  | 93 => ⟨S3x207x2112, .f32⟩
  | 94 => ⟨S3x207x66x32, .f32⟩
  | 95 => ⟨S32x207x66x3, .f32⟩
  | 96 => ⟨S6624x198, .f32⟩
  | 97 => ⟨S6624x64, .f32⟩
  | 98 => ⟨S1x64, .f32⟩
  | 99 => ⟨S6624x64, .f32⟩
  | 100 => ⟨S6624x64, .f32⟩
  | 101 => ⟨S32x13248, .f32⟩
  | 102 => ⟨S32x13248, .f32⟩
  | 103 => ⟨S32x13248, .f32⟩
  | 104 => ⟨S_, .f32⟩
  | 105 => ⟨S32x13248, .f32⟩
  | 106 => ⟨S32x13248, .f32⟩
  | 107 => ⟨S32x13248, .f32⟩
  | 108 => ⟨S32x13248, .f32⟩
  | 109 => ⟨S32x207x64, .f32⟩
  | 110 => ⟨S32x207x64, .f32⟩
  | 111 => ⟨S32x207x128, .f32⟩
  | 112 => ⟨S207x128x32, .f32⟩
  | 113 => ⟨S207x4096, .f32⟩
  | 114 => ⟨S207x207, .f32⟩
  | 115 => ⟨S207x4096, .f32⟩
  | 116 => ⟨S207x4096, .f32⟩
  | 117 => ⟨S_, .f32⟩
  | 118 => ⟨S207x4096, .f32⟩
  | 119 => ⟨S207x4096, .f32⟩
  | 120 => ⟨S207x4096, .f32⟩
  | 121 => ⟨S1x207x4096, .f32⟩
  | 122 => ⟨S1x207x4096, .f32⟩
  | 123 => ⟨S1x207x4096, .f32⟩
  | 124 => ⟨S3x207x4096, .f32⟩
  | 125 => ⟨S3x207x128x32, .f32⟩
  | 126 => ⟨S32x207x128x3, .f32⟩
  | 127 => ⟨S6624x384, .f32⟩
  | _ => ⟨S32x12x207x2, .f32⟩

abbrev hbmTy0_1 (i : Nat) : BufTy := match i % 128 with
  | 0 => ⟨S6624x128, .f32⟩
  | 1 => ⟨S1x128, .f32⟩
  | 2 => ⟨S6624x128, .f32⟩
  | 3 => ⟨S6624x128, .f32⟩
  | 4 => ⟨S32x26496, .f32⟩
  | 5 => ⟨S32x26496, .f32⟩
  | 6 => ⟨S32x26496, .f32⟩
  | 7 => ⟨S_, .f32⟩
  | 8 => ⟨S32x26496, .f32⟩
  | 9 => ⟨S32x26496, .f32⟩
  | 10 => ⟨S_, .f32⟩
  | 11 => ⟨S32x26496, .f32⟩
  | 12 => ⟨S32x26496, .f32⟩
  | 13 => ⟨S32x207x128, .f32⟩
  | 14 => ⟨S32x207x64, .f32⟩
  | 15 => ⟨S32x13248, .f32⟩
  | 16 => ⟨S32x207x64, .f32⟩
  | 17 => ⟨S32x13248, .f32⟩
  | 18 => ⟨S32x13248, .f32⟩
  | 19 => ⟨S32x207x64, .f32⟩
  | 20 => ⟨S32x207x64, .f32⟩
  | 21 => ⟨S32x207x128, .f32⟩
  | 22 => ⟨S207x128x32, .f32⟩
  | 23 => ⟨S207x4096, .f32⟩
  | 24 => ⟨S207x207, .f32⟩
  | 25 => ⟨S207x4096, .f32⟩
  | 26 => ⟨S207x4096, .f32⟩
  | 27 => ⟨S_, .f32⟩
  | 28 => ⟨S207x4096, .f32⟩
  | 29 => ⟨S207x4096, .f32⟩
  | 30 => ⟨S207x4096, .f32⟩
  | 31 => ⟨S1x207x4096, .f32⟩
  | 32 => ⟨S1x207x4096, .f32⟩
  | 33 => ⟨S1x207x4096, .f32⟩
  | 34 => ⟨S3x207x4096, .f32⟩
  | 35 => ⟨S3x207x128x32, .f32⟩
  | 36 => ⟨S32x207x128x3, .f32⟩
  | 37 => ⟨S6624x384, .f32⟩
  | 38 => ⟨S6624x64, .f32⟩
  | 39 => ⟨S1x64, .f32⟩
  | 40 => ⟨S6624x64, .f32⟩
  | 41 => ⟨S6624x64, .f32⟩
  | 42 => ⟨S32x13248, .f32⟩
  | 43 => ⟨S32x13248, .f32⟩
  | 44 => ⟨S32x13248, .f32⟩
  | 45 => ⟨S_, .f32⟩
  | 46 => ⟨S32x13248, .f32⟩
  | 47 => ⟨S32x13248, .f32⟩
  | 48 => ⟨S32x13248, .f32⟩
  | 49 => ⟨S32x13248, .f32⟩
  | 50 => ⟨S1x32x13248, .f32⟩
  | 51 => ⟨S_, .i32⟩
  | 52 => ⟨S_, .i32⟩
  | 53 => ⟨S12x32x13248, .f32⟩
  | 54 => ⟨S_, .i32⟩
  | 55 => ⟨S_, .i32⟩
  | 56 => ⟨S32x12x13248, .f32⟩
  | 57 => ⟨S_, .i32⟩
  | 58 => ⟨S32, .i32⟩
  | 59 => ⟨S32, .i32⟩
  | 60 => ⟨S_, .i32⟩
  | 61 => ⟨S_, .i32⟩
  | 62 => ⟨S_, .i32⟩
  | 63 => ⟨S32, .i32⟩
  | 64 => ⟨S32, .i32⟩
  | 65 => ⟨S_, .i32⟩
  | 66 => ⟨S32, .i32⟩
  | 67 => ⟨S32, .i32⟩
  | 68 => ⟨S32, .i32⟩
  | 69 => ⟨S_, .i32⟩
  | 70 => ⟨S32, .i32⟩
  | 71 => ⟨S32, .i1⟩
  | 72 => ⟨S_, .i32⟩
  | 73 => ⟨S32, .i32⟩
  | 74 => ⟨S32, .i32⟩
  | 75 => ⟨S32, .i32⟩
  | 76 => ⟨S_, .i32⟩
  | 77 => ⟨S32, .i32⟩
  | 78 => ⟨S32, .i1⟩
  | 79 => ⟨S_, .i32⟩
  | 80 => ⟨S32, .i32⟩
  | 81 => ⟨S32, .i32⟩
  | 82 => ⟨S32, .i32⟩
  | 83 => ⟨S32x1, .i32⟩
  | 84 => ⟨S32x1, .i32⟩
  | 85 => ⟨S32x2, .i32⟩
  | 86 => ⟨S32x13248, .f32⟩
  | 87 => ⟨S32x207x64, .f32⟩
  | 88 => ⟨S_, .f32⟩
  | 89 => ⟨S32x207x64, .f32⟩
  | 90 => ⟨S32x207x64, .f32⟩
  | 91 => ⟨S32x207x5, .f32⟩
  | 92 => ⟨S1x1x5, .f32⟩
  | 93 => ⟨S32x207x5, .f32⟩
  | 94 => ⟨S32x207x5, .f32⟩
  | 95 => ⟨S_, .f32⟩
  | 96 => ⟨S32x5, .f32⟩
  | _ => ⟨S32x12x207x2, .f32⟩

abbrev hbmTy (i : Nat) : BufTy := match i / 128 with
  | 0 => hbmTy0_0 i
  | 1 => hbmTy0_1 i
  | _ => ⟨S32x12x207x2, .f32⟩

abbrev bufTy : (tb : Table) → Fin (tcTables nBuf tb) → BufTy
  | .hbm, ⟨i, _⟩ => hbmTy i
  | _, _ => ⟨S32x12x207x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_c : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_v4_3 : Ref sig .tc := ⟨.hbm, 23, rfl⟩
abbrev main_v4_4 : Ref sig .tc := ⟨.hbm, 24, rfl⟩
abbrev main_v4_5 : Ref sig .tc := ⟨.hbm, 25, rfl⟩
abbrev main_v4_6 : Ref sig .tc := ⟨.hbm, 26, rfl⟩
abbrev main_v4_7 : Ref sig .tc := ⟨.hbm, 27, rfl⟩
abbrev main_v4_8 : Ref sig .tc := ⟨.hbm, 28, rfl⟩
abbrev main_v4_9 : Ref sig .tc := ⟨.hbm, 29, rfl⟩
abbrev main_v4_10 : Ref sig .tc := ⟨.hbm, 30, rfl⟩
abbrev main_v4_11 : Ref sig .tc := ⟨.hbm, 31, rfl⟩
abbrev main_v4_12 : Ref sig .tc := ⟨.hbm, 32, rfl⟩
abbrev main_v4_13 : Ref sig .tc := ⟨.hbm, 33, rfl⟩
abbrev main_while0c_c_22 : Ref sig .tc := ⟨.hbm, 34, rfl⟩
abbrev main_while0c_v31 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_v0 : Ref sig .tc := ⟨.hbm, 38, rfl⟩
abbrev main_while0b_v31 : Ref sig .tc := ⟨.hbm, 39, rfl⟩
abbrev main_while0b_v32 : Ref sig .tc := ⟨.hbm, 40, rfl⟩
abbrev main_while0b_v33 : Ref sig .tc := ⟨.hbm, 41, rfl⟩
abbrev main_while0b_v34 : Ref sig .tc := ⟨.hbm, 42, rfl⟩
abbrev main_while0b_v35 : Ref sig .tc := ⟨.hbm, 43, rfl⟩
abbrev main_while0b_v36 : Ref sig .tc := ⟨.hbm, 44, rfl⟩
abbrev main_while0b_v37 : Ref sig .tc := ⟨.hbm, 45, rfl⟩
abbrev main_while0b_v38 : Ref sig .tc := ⟨.hbm, 46, rfl⟩
abbrev main_while0b_v39 : Ref sig .tc := ⟨.hbm, 47, rfl⟩
abbrev main_while0b_cst_22 : Ref sig .tc := ⟨.hbm, 48, rfl⟩
abbrev main_while0b_v40 : Ref sig .tc := ⟨.hbm, 49, rfl⟩
abbrev main_while0b_v41 : Ref sig .tc := ⟨.hbm, 50, rfl⟩
abbrev main_while0b_v42 : Ref sig .tc := ⟨.hbm, 51, rfl⟩
abbrev main_while0b_v43 : Ref sig .tc := ⟨.hbm, 52, rfl⟩
abbrev main_while0b_v44 : Ref sig .tc := ⟨.hbm, 53, rfl⟩
abbrev main_while0b_v45 : Ref sig .tc := ⟨.hbm, 54, rfl⟩
abbrev main_while0b_v46 : Ref sig .tc := ⟨.hbm, 55, rfl⟩
abbrev main_while0b_v47 : Ref sig .tc := ⟨.hbm, 56, rfl⟩
abbrev main_while0b_v48 : Ref sig .tc := ⟨.hbm, 57, rfl⟩
abbrev main_while0b_v49 : Ref sig .tc := ⟨.hbm, 58, rfl⟩
abbrev main_while0b_v50 : Ref sig .tc := ⟨.hbm, 59, rfl⟩
abbrev main_while0b_v51 : Ref sig .tc := ⟨.hbm, 60, rfl⟩
abbrev main_while0b_v52 : Ref sig .tc := ⟨.hbm, 61, rfl⟩
abbrev main_while0b_v53 : Ref sig .tc := ⟨.hbm, 62, rfl⟩
abbrev main_while0b_v54 : Ref sig .tc := ⟨.hbm, 63, rfl⟩
abbrev main_while0b_v55 : Ref sig .tc := ⟨.hbm, 64, rfl⟩
abbrev main_while0b_v56 : Ref sig .tc := ⟨.hbm, 65, rfl⟩
abbrev main_while0b_cst_23 : Ref sig .tc := ⟨.hbm, 66, rfl⟩
abbrev main_while0b_v57 : Ref sig .tc := ⟨.hbm, 67, rfl⟩
abbrev main_while0b_v58 : Ref sig .tc := ⟨.hbm, 68, rfl⟩
abbrev main_while0b_cst_24 : Ref sig .tc := ⟨.hbm, 69, rfl⟩
abbrev main_while0b_v59 : Ref sig .tc := ⟨.hbm, 70, rfl⟩
abbrev main_while0b_v60 : Ref sig .tc := ⟨.hbm, 71, rfl⟩
abbrev main_while0b_v61 : Ref sig .tc := ⟨.hbm, 72, rfl⟩
abbrev main_while0b_v62 : Ref sig .tc := ⟨.hbm, 73, rfl⟩
abbrev main_while0b_v63 : Ref sig .tc := ⟨.hbm, 74, rfl⟩
abbrev main_while0b_v64 : Ref sig .tc := ⟨.hbm, 75, rfl⟩
abbrev main_while0b_v65 : Ref sig .tc := ⟨.hbm, 76, rfl⟩
abbrev main_while0b_v66 : Ref sig .tc := ⟨.hbm, 77, rfl⟩
abbrev main_while0b_v67 : Ref sig .tc := ⟨.hbm, 78, rfl⟩
abbrev main_while0b_v68 : Ref sig .tc := ⟨.hbm, 79, rfl⟩
abbrev main_while0b_v69 : Ref sig .tc := ⟨.hbm, 80, rfl⟩
abbrev main_while0b_v70 : Ref sig .tc := ⟨.hbm, 81, rfl⟩
abbrev main_while0b_v71 : Ref sig .tc := ⟨.hbm, 82, rfl⟩
abbrev main_while0b_v72 : Ref sig .tc := ⟨.hbm, 83, rfl⟩
abbrev main_while0b_v73 : Ref sig .tc := ⟨.hbm, 84, rfl⟩
abbrev main_while0b_v74 : Ref sig .tc := ⟨.hbm, 85, rfl⟩
abbrev main_while0b_cst_25 : Ref sig .tc := ⟨.hbm, 86, rfl⟩
abbrev main_while0b_v75 : Ref sig .tc := ⟨.hbm, 87, rfl⟩
abbrev main_while0b_v76 : Ref sig .tc := ⟨.hbm, 88, rfl⟩
abbrev main_while0b_v77 : Ref sig .tc := ⟨.hbm, 89, rfl⟩
abbrev main_while0b_v78 : Ref sig .tc := ⟨.hbm, 90, rfl⟩
abbrev main_while0b_v79 : Ref sig .tc := ⟨.hbm, 91, rfl⟩
abbrev main_while0b_v80 : Ref sig .tc := ⟨.hbm, 92, rfl⟩
abbrev main_while0b_v81 : Ref sig .tc := ⟨.hbm, 93, rfl⟩
abbrev main_while0b_v82 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_v86 : Ref sig .tc := ⟨.hbm, 98, rfl⟩
abbrev main_while0b_v87 : Ref sig .tc := ⟨.hbm, 99, rfl⟩
abbrev main_while0b_v88 : Ref sig .tc := ⟨.hbm, 100, rfl⟩
abbrev main_while0b_v89 : Ref sig .tc := ⟨.hbm, 101, rfl⟩
abbrev main_while0b_v90 : Ref sig .tc := ⟨.hbm, 102, rfl⟩
abbrev main_while0b_v91 : Ref sig .tc := ⟨.hbm, 103, rfl⟩
abbrev main_while0b_cst_26 : Ref sig .tc := ⟨.hbm, 104, rfl⟩
abbrev main_while0b_v92 : Ref sig .tc := ⟨.hbm, 105, rfl⟩
abbrev main_while0b_v93 : Ref sig .tc := ⟨.hbm, 106, rfl⟩
abbrev main_while0b_v94 : Ref sig .tc := ⟨.hbm, 107, rfl⟩
abbrev main_while0b_v95 : Ref sig .tc := ⟨.hbm, 108, rfl⟩
abbrev main_while0b_v96 : Ref sig .tc := ⟨.hbm, 109, rfl⟩
abbrev main_while0b_v97 : Ref sig .tc := ⟨.hbm, 110, rfl⟩
abbrev main_while0b_v98 : Ref sig .tc := ⟨.hbm, 111, rfl⟩
abbrev main_while0b_v99 : Ref sig .tc := ⟨.hbm, 112, rfl⟩
abbrev main_while0b_v100 : Ref sig .tc := ⟨.hbm, 113, rfl⟩
abbrev main_while0b_v101 : Ref sig .tc := ⟨.hbm, 114, rfl⟩
abbrev main_while0b_v102 : Ref sig .tc := ⟨.hbm, 115, rfl⟩
abbrev main_while0b_v103 : Ref sig .tc := ⟨.hbm, 116, rfl⟩
abbrev main_while0b_cst_27 : Ref sig .tc := ⟨.hbm, 117, rfl⟩
abbrev main_while0b_v104 : Ref sig .tc := ⟨.hbm, 118, rfl⟩
abbrev main_while0b_v105 : Ref sig .tc := ⟨.hbm, 119, rfl⟩
abbrev main_while0b_v106 : Ref sig .tc := ⟨.hbm, 120, rfl⟩
abbrev main_while0b_v107 : Ref sig .tc := ⟨.hbm, 121, rfl⟩
abbrev main_while0b_v108 : Ref sig .tc := ⟨.hbm, 122, rfl⟩
abbrev main_while0b_v109 : Ref sig .tc := ⟨.hbm, 123, rfl⟩
abbrev main_while0b_v110 : Ref sig .tc := ⟨.hbm, 124, rfl⟩
abbrev main_while0b_v111 : Ref sig .tc := ⟨.hbm, 125, rfl⟩
abbrev main_while0b_v112 : Ref sig .tc := ⟨.hbm, 126, rfl⟩
abbrev main_while0b_v113 : Ref sig .tc := ⟨.hbm, 127, rfl⟩
abbrev main_while0b_v114 : Ref sig .tc := ⟨.hbm, 128, rfl⟩
abbrev main_while0b_v115 : Ref sig .tc := ⟨.hbm, 129, rfl⟩
abbrev main_while0b_v116 : Ref sig .tc := ⟨.hbm, 130, rfl⟩
abbrev main_while0b_v117 : Ref sig .tc := ⟨.hbm, 131, rfl⟩
abbrev main_while0b_v118 : Ref sig .tc := ⟨.hbm, 132, rfl⟩
abbrev main_while0b_v119 : Ref sig .tc := ⟨.hbm, 133, rfl⟩
abbrev main_while0b_v120 : Ref sig .tc := ⟨.hbm, 134, rfl⟩
abbrev main_while0b_cst_28 : Ref sig .tc := ⟨.hbm, 135, rfl⟩
abbrev main_while0b_v121 : Ref sig .tc := ⟨.hbm, 136, rfl⟩
abbrev main_while0b_v122 : Ref sig .tc := ⟨.hbm, 137, rfl⟩
abbrev main_while0b_cst_29 : Ref sig .tc := ⟨.hbm, 138, rfl⟩
abbrev main_while0b_v123 : Ref sig .tc := ⟨.hbm, 139, rfl⟩
abbrev main_while0b_v124 : Ref sig .tc := ⟨.hbm, 140, rfl⟩
abbrev main_while0b_v125 : Ref sig .tc := ⟨.hbm, 141, rfl⟩
abbrev main_while0b_v126 : Ref sig .tc := ⟨.hbm, 142, rfl⟩
abbrev main_while0b_v127 : Ref sig .tc := ⟨.hbm, 143, rfl⟩
abbrev main_while0b_v128 : Ref sig .tc := ⟨.hbm, 144, rfl⟩
abbrev main_while0b_v129 : Ref sig .tc := ⟨.hbm, 145, rfl⟩
abbrev main_while0b_v130 : Ref sig .tc := ⟨.hbm, 146, rfl⟩
abbrev main_while0b_v131 : Ref sig .tc := ⟨.hbm, 147, rfl⟩
abbrev main_while0b_v132 : Ref sig .tc := ⟨.hbm, 148, rfl⟩
abbrev main_while0b_v133 : Ref sig .tc := ⟨.hbm, 149, rfl⟩
abbrev main_while0b_v134 : Ref sig .tc := ⟨.hbm, 150, rfl⟩
abbrev main_while0b_v135 : Ref sig .tc := ⟨.hbm, 151, rfl⟩
abbrev main_while0b_v136 : Ref sig .tc := ⟨.hbm, 152, rfl⟩
abbrev main_while0b_v137 : Ref sig .tc := ⟨.hbm, 153, rfl⟩
abbrev main_while0b_v138 : Ref sig .tc := ⟨.hbm, 154, rfl⟩
abbrev main_while0b_cst_30 : Ref sig .tc := ⟨.hbm, 155, rfl⟩
abbrev main_while0b_v139 : Ref sig .tc := ⟨.hbm, 156, rfl⟩
abbrev main_while0b_v140 : Ref sig .tc := ⟨.hbm, 157, rfl⟩
abbrev main_while0b_v141 : Ref sig .tc := ⟨.hbm, 158, rfl⟩
abbrev main_while0b_v142 : Ref sig .tc := ⟨.hbm, 159, rfl⟩
abbrev main_while0b_v143 : Ref sig .tc := ⟨.hbm, 160, rfl⟩
abbrev main_while0b_v144 : Ref sig .tc := ⟨.hbm, 161, rfl⟩
abbrev main_while0b_v145 : Ref sig .tc := ⟨.hbm, 162, rfl⟩
abbrev main_while0b_v146 : Ref sig .tc := ⟨.hbm, 163, rfl⟩
abbrev main_while0b_v147 : Ref sig .tc := ⟨.hbm, 164, rfl⟩
abbrev main_while0b_v148 : Ref sig .tc := ⟨.hbm, 165, rfl⟩
abbrev main_while0b_v149 : Ref sig .tc := ⟨.hbm, 166, rfl⟩
abbrev main_while0b_v150 : Ref sig .tc := ⟨.hbm, 167, rfl⟩
abbrev main_while0b_v151 : Ref sig .tc := ⟨.hbm, 168, rfl⟩
abbrev main_while0b_v152 : Ref sig .tc := ⟨.hbm, 169, rfl⟩
abbrev main_while0b_v153 : Ref sig .tc := ⟨.hbm, 170, rfl⟩
abbrev main_while0b_v154 : Ref sig .tc := ⟨.hbm, 171, rfl⟩
abbrev main_while0b_v155 : Ref sig .tc := ⟨.hbm, 172, rfl⟩
abbrev main_while0b_cst_31 : Ref sig .tc := ⟨.hbm, 173, rfl⟩
abbrev main_while0b_v156 : Ref sig .tc := ⟨.hbm, 174, rfl⟩
abbrev main_while0b_v157 : Ref sig .tc := ⟨.hbm, 175, rfl⟩
abbrev main_while0b_v158 : Ref sig .tc := ⟨.hbm, 176, rfl⟩
abbrev main_while0b_v159 : Ref sig .tc := ⟨.hbm, 177, rfl⟩
abbrev main_while0b_call1_v0 : Ref sig .tc := ⟨.hbm, 178, rfl⟩
abbrev main_while0b_call1_c : Ref sig .tc := ⟨.hbm, 179, rfl⟩
abbrev main_while0b_call1_c_0 : Ref sig .tc := ⟨.hbm, 180, rfl⟩
abbrev main_while0b_v160 : Ref sig .tc := ⟨.hbm, 181, rfl⟩
abbrev main_while0b_c_32 : Ref sig .tc := ⟨.hbm, 182, rfl⟩
abbrev main_while0b_v161 : Ref sig .tc := ⟨.hbm, 183, rfl⟩
abbrev main_v5 : Ref sig .tc := ⟨.hbm, 184, rfl⟩
abbrev main_c_1 : Ref sig .tc := ⟨.hbm, 185, rfl⟩
abbrev main_v6 : Ref sig .tc := ⟨.hbm, 186, rfl⟩
abbrev main_v7 : Ref sig .tc := ⟨.hbm, 187, rfl⟩
abbrev main_c_2 : Ref sig .tc := ⟨.hbm, 188, rfl⟩
abbrev main_c_3 : Ref sig .tc := ⟨.hbm, 189, rfl⟩
abbrev main_call2_v0 : Ref sig .tc := ⟨.hbm, 190, rfl⟩
abbrev main_call2_v1 : Ref sig .tc := ⟨.hbm, 191, rfl⟩
abbrev main_call2_v2 : Ref sig .tc := ⟨.hbm, 192, rfl⟩
abbrev main_call2_v3 : Ref sig .tc := ⟨.hbm, 193, rfl⟩
abbrev main_call2_v4 : Ref sig .tc := ⟨.hbm, 194, rfl⟩
abbrev main_v8 : Ref sig .tc := ⟨.hbm, 195, rfl⟩
abbrev main_v9 : Ref sig .tc := ⟨.hbm, 196, rfl⟩
abbrev main_c_4 : Ref sig .tc := ⟨.hbm, 197, rfl⟩
abbrev main_v10 : Ref sig .tc := ⟨.hbm, 198, rfl⟩
abbrev main_v11 : Ref sig .tc := ⟨.hbm, 199, rfl⟩
abbrev main_c_5 : Ref sig .tc := ⟨.hbm, 200, rfl⟩
abbrev main_v12 : Ref sig .tc := ⟨.hbm, 201, rfl⟩
abbrev main_v13 : Ref sig .tc := ⟨.hbm, 202, rfl⟩
abbrev main_v14 : Ref sig .tc := ⟨.hbm, 203, rfl⟩
abbrev main_c_6 : Ref sig .tc := ⟨.hbm, 204, rfl⟩
abbrev main_v15 : Ref sig .tc := ⟨.hbm, 205, rfl⟩
abbrev main_v16 : Ref sig .tc := ⟨.hbm, 206, rfl⟩
abbrev main_c_7 : Ref sig .tc := ⟨.hbm, 207, rfl⟩
abbrev main_v17 : Ref sig .tc := ⟨.hbm, 208, rfl⟩
abbrev main_v18 : Ref sig .tc := ⟨.hbm, 209, rfl⟩
abbrev main_v19 : Ref sig .tc := ⟨.hbm, 210, rfl⟩
abbrev main_v20 : Ref sig .tc := ⟨.hbm, 211, rfl⟩
abbrev main_v21 : Ref sig .tc := ⟨.hbm, 212, rfl⟩
abbrev main_v22 : Ref sig .tc := ⟨.hbm, 213, rfl⟩
abbrev main_v23 : Ref sig .tc := ⟨.hbm, 214, rfl⟩
abbrev main_v24 : Ref sig .tc := ⟨.hbm, 215, rfl⟩
abbrev main_call3_cst : Ref sig .tc := ⟨.hbm, 216, rfl⟩
abbrev main_call3_v0 : Ref sig .tc := ⟨.hbm, 217, rfl⟩
abbrev main_v25 : Ref sig .tc := ⟨.hbm, 218, rfl⟩
abbrev main_v26 : Ref sig .tc := ⟨.hbm, 219, rfl⟩
abbrev main_v27 : Ref sig .tc := ⟨.hbm, 220, rfl⟩
abbrev main_v28 : Ref sig .tc := ⟨.hbm, 221, rfl⟩
abbrev main_v29 : Ref sig .tc := ⟨.hbm, 222, rfl⟩
abbrev main_cst_8 : Ref sig .tc := ⟨.hbm, 223, rfl⟩
abbrev main_v30 : Ref sig .tc := ⟨.hbm, 224, rfl⟩

abbrev nD : Nat := 1
abbrev τ : Topo := Topo.v7x

variable {F : FTy → Type} [FloatOps F]

abbrev main_while0_count : Scf.Loop 32 := ⟨0#32, 12#32, 1#32⟩
-- ==== Proof.Spec.lean ====
/-
  The model both programs compute, over the extended reals: a two-layer diffusion-convolution GRU on a graph of 207
  nodes, one batch element at a time.

  A signal on the graph is a function of the node. `hop` is one application of the support matrix, `cheb2` the second
  Chebyshev term, `tap` one feature's contribution to one output column (the three diffusion orders against their three
  weights), `pre` a whole pre-activation: input features, hidden features, bias. `cell` is the GRU update and `states`
  the two layers' hidden states before each time step.
-/
module

public import Idealize.ShloMosaic.Lib.Pointwise

@[expose] public section

noncomputable section

namespace Cert.Dcgru

open Idealize.ShloMosaic

/-- A signal on the graph: one number per node. -/
abbrev Signal := Fin 207 → EReal

/-- The support matrix. -/
abbrev Support := Fin 207 → Fin 207 → EReal

/-- The number 2, as the f32 constant both programs multiply by. -/
def two : EReal := Ideal.ofBits .f32 0x40000000#32

/-- One diffusion step: the support matrix applied to a signal. -/
def hop (S : Support) (v : Signal) : Signal := fun n => ∑ m, S n m * v m

/-- The second Chebyshev term `2·S·(S·v) − v`. -/
def cheb2 (S : Support) (v : Signal) : Signal := fun n => two * hop S (hop S v) n - v n

/-- The three diffusion orders of a signal: itself, one hop, the second Chebyshev term. -/
def order (S : Support) (v : Signal) : Fin 3 → Signal := ![v, hop S v, cheb2 S v]

/-- One feature's contribution to one output: its three diffusion orders against three weights. -/
def tap (S : Support) (v : Signal) (w : Fin 3 → EReal) : Signal := fun n => ∑ k, order S v k n * w k

/-- The logistic function, as the model writes it. -/
def sigmoid (x : EReal) : EReal := Ideal.div 1 (1 + Ideal.exp (-x))

/-- A pre-activation: the input features' contributions, the hidden features' contributions and the bias. -/
def pre {I : ℕ} (S : Support) (x : Fin I → Signal) (h : Fin 64 → Signal) (wx : Fin I → Fin 3 → EReal)
    (wh : Fin 64 → Fin 3 → EReal) (b : EReal) : Signal :=
  fun n => (∑ i, tap S (x i) (wx i) n) + (∑ u, tap S (h u) (wh u) n) + b

/-- One layer's parameters. A gate weight is indexed by gate (0 reset, 1 update), output unit, feature and diffusion
    order; a candidate weight by output unit, feature and diffusion order. -/
structure Layer (I : ℕ) where
  gx : Fin 2 → Fin 64 → Fin I → Fin 3 → EReal
  gh : Fin 2 → Fin 64 → Fin 64 → Fin 3 → EReal
  gb : Fin 2 → Fin 64 → EReal
  cx : Fin 64 → Fin I → Fin 3 → EReal
  ch : Fin 64 → Fin 64 → Fin 3 → EReal
  cb : Fin 64 → EReal

/-- A layer's parameters out of its weight matrices: the row of feature `f` at diffusion order `k` is `3·f + k`, the input
    features come before the hidden ones, and the gates' columns hold the reset gate's units before the update gate's. -/
def layer (I : ℕ) (Wg : Fin ((I + 64) * 3) → Fin 128 → EReal) (bg : Fin 128 → EReal)
    (Wc : Fin ((I + 64) * 3) → Fin 64 → EReal) (bc : Fin 64 → EReal) : Layer I where
  gx g v i k := Wg ⟨i * 3 + k, by omega⟩ ⟨g * 64 + v, by omega⟩
  gh g v u k := Wg ⟨(I + u) * 3 + k, by omega⟩ ⟨g * 64 + v, by omega⟩
  gb g v := bg ⟨g * 64 + v, by omega⟩
  cx v i k := Wc ⟨i * 3 + k, by omega⟩ v
  ch v u k := Wc ⟨(I + u) * 3 + k, by omega⟩ v
  cb v := bc v

/-- Gate `g` of unit `u` at every node. -/
def gate {I : ℕ} (L : Layer I) (S : Support) (x : Fin I → Signal) (h : Fin 64 → Signal) (g : Fin 2) (u : Fin 64) : Signal :=
  fun n => sigmoid (pre S x h (L.gx g u) (L.gh g u) (L.gb g u) n)

/-- The candidate of unit `u`: the hidden features enter multiplied by the reset gate. -/
def cand {I : ℕ} (L : Layer I) (S : Support) (x : Fin I → Signal) (h : Fin 64 → Signal) (u : Fin 64) : Signal :=
  fun n => Ideal.tanh (pre S x (fun v m => gate L S x h 0 v m * h v m) (L.cx u) (L.ch u) (L.cb u) n)

/-- The GRU update of unit `u`. -/
def cell {I : ℕ} (L : Layer I) (S : Support) (x : Fin I → Signal) (h : Fin 64 → Signal) (u : Fin 64) : Signal :=
  fun n => gate L S x h 1 u n * h u n + (1 - gate L S x h 1 u n) * cand L S x h u n

/-- The two layers' hidden states before time step `t`, from zero, for the inputs `x t`. -/
def states (L0 : Layer 2) (L1 : Layer 64) (S : Support) (x : ℕ → Fin 2 → Signal) :
    ℕ → (Fin 64 → Signal) × (Fin 64 → Signal)
  | 0 => (fun _ _ => 0, fun _ _ => 0)
  | t + 1 =>
    (cell L0 S (x t) (states L0 L1 S x t).1,
     cell L1 S (cell L0 S (x t) (states L0 L1 S x t).1) (states L0 L1 S x t).2)

/-- The maximum's initial value, minus infinity as an f32 constant, is the least extended real. -/
theorem negInf_eq : Ideal.ofBits .f32 0xFF800000#32 = ⊥ := by
  simp [Ideal.ofBits, Ideal.ieee]

/-- A class score: the largest over the nodes of the linear read-out of the positive part of the hidden state. -/
def score (h : Fin 64 → Signal) (w : Fin 64 → EReal) (b : EReal) : EReal :=
  Finset.univ.fold max ⊥ fun n => (∑ u, max (h u n) 0 * w u) + b

end Cert.Dcgru

end
-- ==== Proof.Model.lean ====
/-
  The model on its twelve arguments: the parameters of both layers, the inputs of every batch element, the last relevant
  time step, and the result both programs are shown to compute.
-/
module

public import proofs.«01_k».proof.Proof.Spec
public import Idealize.ShloMosaic.Lib.Tactic.WordOmega

@[expose] public section

noncomputable section

namespace Cert.Dcgru

open Idealize.ShloMosaic

/-- The arguments, as plain functions of their indices. -/
structure Args where
  x : Fin 32 → Fin 12 → Fin 207 → Fin 2 → EReal
  len : Fin 32 → BitVec 32
  S : Support
  Wg0 : Fin 198 → Fin 128 → EReal
  bg0 : Fin 128 → EReal
  Wc0 : Fin 198 → Fin 64 → EReal
  bc0 : Fin 64 → EReal
  Wg1 : Fin 384 → Fin 128 → EReal
  bg1 : Fin 128 → EReal
  Wc1 : Fin 384 → Fin 64 → EReal
  bc1 : Fin 64 → EReal
  Wfc : Fin 64 → Fin 5 → EReal
  bfc : Fin 5 → EReal

namespace Args

variable (A : Args)

/-- The first layer. -/
def L0 : Layer 2 := layer 2 A.Wg0 A.bg0 A.Wc0 A.bc0

/-- The second layer. -/
def L1 : Layer 64 := layer 64 A.Wg1 A.bg1 A.Wc1 A.bc1

/-- The inputs of batch element `b` at time step `t`, zero past the last step. -/
def inputs (b : Fin 32) (t : ℕ) (i : Fin 2) : Signal := fun n => if h : t < 12 then A.x b ⟨t, h⟩ n i else 0

/-- The last relevant step of batch element `b` as a word: its length less one, clipped to the steps there are. -/
def lastWord (b : Fin 32) : BitVec 32 := IntOp.minsi 11#32 (IntOp.maxsi 0#32 (IntOp.subi (A.len b) 1#32))

/-- The last relevant step of batch element `b`. -/
def last (b : Fin 32) : ℕ := (A.lastWord b).toNat

theorem last_lt (b : Fin 32) : A.last b < 12 := by
  unfold last lastWord
  generalize IntOp.subi (A.len b) 1#32 = w
  have h0 : (0#32).toInt = 0 := rfl
  have h11 : (11#32).toInt = 11 := rfl
  have e := BitVec.toInt_eq_toNat_cond w
  have := w.isLt
  simp only [IntOp.minsi, IntOp.maxsi, BitVec.slt, h0, h11]
  split_ifs <;> simp_all <;> omega

/-- The class scores. -/
def result (b : Fin 32) (q : Fin 5) : EReal :=
  score (states A.L0 A.L1 A.S (A.inputs b) (A.last b + 1)).2 (fun u => A.Wfc u q) (A.bfc q)

end Args

end Cert.Dcgru

end
-- ==== Proof.Packed.lean ====
/-
  Sums over packed lanes. The kernel keeps two batch elements side by side: lane `a·J + j` holds feature `j` of element
  `a`, the weights are two copies of the model's on the diagonal and zero off it, and the graph has one padding node whose
  column in the support matrix is zero. Here: such a sum over lanes is the model's sum over one element's features, and
  a diffusion over the padded nodes is the model's diffusion at the real ones.
-/
module

public import proofs.«01_k».proof.Proof.Spec

@[expose] public section

noncomputable section

namespace Cert.Dcgru

open Idealize.ShloMosaic

/-- A real node among the padded ones. -/
abbrev up (n : Fin 207) : Fin 208 := ⟨n, by omega⟩

/-- Lane `a·J + j`: feature `j` of the packed element `a`. -/
abbrev lane {J N : ℕ} (h : 2 * J = N) (a : Fin 2) (j : Fin J) : Fin N := ⟨a * J + j, by
  have := j.isLt; subst h
  calc a.val * J + j < a.val * J + J := by omega
    _ = (a.val + 1) * J := by rw [Nat.add_mul, Nat.one_mul]
    _ ≤ 2 * J := Nat.mul_le_mul_right _ (by omega)⟩

/-- A sum over packed lanes against weights that vanish off element `a` is the sum over that element's features. -/
theorem sum_lanes {J N : ℕ} (h : 2 * J = N) (a : Fin 2) (f w : Fin N → EReal) (W : Fin J → EReal)
    (hw : ∀ a' j, w (lane h a' j) = if a' = a then W j else 0) :
    ∑ x, f x * w x = ∑ j, f (lane h a j) * W j := by
  rw [Fin.sum_univ_tiles 2 J h]
  refine (Finset.sum_congr rfl fun a' _ => Finset.sum_congr rfl fun j _ => congrArg _ (hw a' j)).trans ?_
  rw [Finset.sum_eq_single a]
  · simp
  · intro a' _ ha; simp [ha]
  · simp

variable {v : Fin 208 → Fin 208 → EReal} {S : Support}

/-- The padded support matrix: the model's at the real nodes, a zero column at the padding node. -/
structure IsPadded (v : Fin 208 → Fin 208 → EReal) (S : Support) : Prop where
  real : ∀ n m, v (up n) (up m) = S n m
  pad : ∀ n, v (up n) (Fin.last 207) = 0

/-- A diffusion over the padded nodes, at a real node. -/
theorem IsPadded.hop (h : IsPadded v S) {f : Fin 208 → EReal} {g : Signal} (hf : ∀ m, f (up m) = g m) (n : Fin 207) :
    ∑ m, v (up n) m * f m = hop S g n := by
  rw [Fin.sum_univ_castSucc, h.pad, zero_mul, add_zero]
  exact Finset.sum_congr rfl fun m _ => congrArg₂ _ (h.real n m) (hf m)

/-- The three diffusion orders of a family of padded signals. -/
def porder {N : ℕ} (v : Fin 208 → Fin 208 → EReal) (f : Fin 208 → Fin N → EReal) : Fin 3 → Fin 208 → Fin N → EReal :=
  ![f, fun n l => ∑ m, v n m * f m l, fun n l => two * ∑ m, v n m * ∑ m', v m m' * f m' l - f n l]

theorem IsPadded.porder (h : IsPadded v S) {N : ℕ} {f : Fin 208 → Fin N → EReal} {g : Signal} {l : Fin N}
    (hf : ∀ m, f (up m) l = g m) (k : Fin 3) (n : Fin 207) : porder v f k (up n) l = order S g k n := by
  fin_cases k
  · exact hf n
  · exact h.hop (f := fun m => f m l) hf n
  · exact congrArg₂ (· - ·) (congrArg _ (h.hop (fun m => h.hop (f := fun m => f m l) hf m) n)) (hf n)

/-- A contraction of one diffusion order against weights that vanish off element `a`. -/
theorem IsPadded.contract (h : IsPadded v S) {J N : ℕ} (hN : 2 * J = N) {a : Fin 2} {f : Fin 208 → Fin N → EReal}
    {g : Fin J → Signal} (hf : ∀ j m, f (up m) (lane hN a j) = g j m) {w : Fin N → EReal} {W : Fin J → EReal}
    (hw : ∀ a' j, w (lane hN a' j) = if a' = a then W j else 0) (k : Fin 3) (n : Fin 207) :
    ∑ x, Dcgru.porder v f k (up n) x * w x = ∑ j, order S (g j) k n * W j := by
  rw [sum_lanes hN a _ w W hw]
  exact Finset.sum_congr rfl fun j _ => congrArg (· * _) (h.porder (hf j) k n)

/-- The three orders' contractions together: every feature's `tap`. -/
theorem IsPadded.taps (h : IsPadded v S) {J N : ℕ} (hN : 2 * J = N) {a : Fin 2} {f : Fin 208 → Fin N → EReal}
    {g : Fin J → Signal} (hf : ∀ j m, f (up m) (lane hN a j) = g j m) {w : Fin 3 → Fin N → EReal}
    {W : Fin J → Fin 3 → EReal} (hw : ∀ k a' j, w k (lane hN a' j) = if a' = a then W j k else 0) (n : Fin 207) :
    ∑ k, ∑ x, Dcgru.porder v f k (up n) x * w k x = ∑ j, tap S (g j) (W j) n := by
  simp only [tap]
  refine Eq.trans ?_ Finset.sum_comm
  exact Finset.sum_congr rfl fun k _ => h.contract hN hf (hw k) k n

/-- Column `g·128 + a·64 + v` of a packed gate matrix: gate `g` of unit `v` of element `a`. -/
abbrev gateCol {N : ℕ} (h : 256 ≤ N) (g a : Fin 2) (v : Fin 64) : Fin N := ⟨g * 128 + (a * 64 + v), by omega⟩

theorem gateCol_zero {N : ℕ} (h : 256 ≤ N) (a : Fin 2) (v : Fin 64) : gateCol h 0 a v = ⟨a * 64 + v, by omega⟩ :=
  Fin.ext (by simp)

theorem gateCol_one {N : ℕ} (h : 256 ≤ N) (a : Fin 2) (v : Fin 64) : gateCol h 1 a v = ⟨128 + (a * 64 + v), by omega⟩ :=
  Fin.ext (by simp)

/-- Column `256 + a·64 + v` of a packed matrix: the candidate of unit `v` of element `a`. -/
abbrev candCol (a : Fin 2) (v : Fin 64) : Fin 384 := ⟨256 + (a * 64 + v), by omega⟩

/-- One layer's packed parameters, for element `a`: `wx`, `wh` the first product's rows of the input and of the hidden
    features, `wr` the second product's rows (the hidden features times the reset gate), `bg`, `bc` the biases. -/
structure IsLayer {I N : ℕ} (L : Layer I) (hN : 2 * I = N) (wx : Fin 3 → Fin N → Fin 384 → EReal)
    (wh : Fin 3 → Fin 128 → Fin 384 → EReal) (wr : Fin 3 → Fin 128 → Fin 128 → EReal)
    (bg : Fin 256 → EReal) (bc : Fin 128 → EReal) : Prop where
  gx : ∀ g a v k a' i, wx k (lane hN a' i) (gateCol (by omega) g a v) = if a' = a then L.gx g v i k else 0
  gh : ∀ g a v k a' u, wh k (lane rfl a' u) (gateCol (by omega) g a v) = if a' = a then L.gh g v u k else 0
  cx : ∀ a v k a' i, wx k (lane hN a' i) (candCol a v) = if a' = a then L.cx v i k else 0
  c0 : ∀ a v k l, wh k l (candCol a v) = 0
  ch : ∀ a v k a' u, wr k (lane rfl a' u) (lane rfl a v) = if a' = a then L.ch v u k else 0
  gb : ∀ g a v, bg (gateCol le_rfl g a v) = L.gb g v
  cb : ∀ a v, bc (lane rfl a v) = L.cb v

section

variable {I N : ℕ} {L : Layer I} {hN : 2 * I = N} {wx : Fin 3 → Fin N → Fin 384 → EReal}
  {wh : Fin 3 → Fin 128 → Fin 384 → EReal} {wr : Fin 3 → Fin 128 → Fin 128 → EReal}
  {bg : Fin 256 → EReal} {bc : Fin 128 → EReal}

/-- The first product of a cell: both feature blocks, all three orders. -/
def first (v : Fin 208 → Fin 208 → EReal) (wx : Fin 3 → Fin N → Fin 384 → EReal) (wh : Fin 3 → Fin 128 → Fin 384 → EReal)
    (x : Fin 208 → Fin N → EReal) (h : Fin 208 → Fin 128 → EReal) (n : Fin 208) (o : Fin 384) : EReal :=
  (∑ k, ∑ j, porder v x k n j * wx k j o) + ∑ k, ∑ l, porder v h k n l * wh k l o

/-- The second product of a cell: the hidden features times the reset gate. -/
def second (v : Fin 208 → Fin 208 → EReal) (wr : Fin 3 → Fin 128 → Fin 128 → EReal) (h : Fin 208 → Fin 128 → EReal)
    (n : Fin 208) (o : Fin 128) : EReal := ∑ k, ∑ l, porder v h k n l * wr k l o

variable (hv : IsPadded v S) (hL : IsLayer L hN wx wh wr bg bc) {a : Fin 2} {x : Fin 208 → Fin N → EReal}
  {h : Fin 208 → Fin 128 → EReal} {X : Fin I → Signal} {H : Fin 64 → Signal}
  (hx : ∀ i m, x (up m) (lane hN a i) = X i m) (hh : ∀ u m, h (up m) (lane rfl a u) = H u m)

include hv hL hx hh

/-- The first product's gate columns with the bias: the gates' pre-activations. -/
theorem first_gate (g : Fin 2) (u : Fin 64) (n : Fin 207) :
    first v wx wh x h (up n) (gateCol (by omega) g a u) + bg (gateCol le_rfl g a u)
      = pre S X H (L.gx g u) (L.gh g u) (L.gb g u) n :=
  congrArg₂ _ (congrArg₂ _ (hv.taps hN hx (fun k a' i => hL.gx g a u k a' i) n) (hv.taps rfl hh (fun k a' i => hL.gh g a u k a' i) n))
    (hL.gb g a u)

/-- The first product's candidate columns: the input features' part of the candidate. -/
theorem first_cand (u : Fin 64) (n : Fin 207) :
    first v wx wh x h (up n) (candCol a u) = ∑ i, tap S (X i) (L.cx u i) n := by
  rw [first, hv.taps hN hx (fun k a' i => hL.cx a u k a' i) n]
  simp [hL.c0]

omit hx in
/-- The second product: the hidden features' part of the candidate. -/
theorem second_cand (u : Fin 64) (n : Fin 207) :
    second v wr h (up n) (lane rfl a u) = ∑ i, tap S (H i) (L.ch u i) n :=
  hv.taps rfl hh (fun k a' i => hL.ch a u k a' i) n

end

end Cert.Dcgru

end
-- ==== Proof.Sigmoid.lean ====
/-
  The logistic function two ways: the quotient `1 / (1 + exp (−x))` and the shifted half-angle tangent
  `½·tanh (½·x) + ½` are one function on the extended reals, the infinities included.
-/
module

public import proofs.«01_k».proof.Proof.Spec

@[expose] public section

noncomputable section

namespace Cert.Dcgru

open Idealize.ShloMosaic

/-- One half, as the f32 constant the kernel multiplies by. -/
def half : EReal := Ideal.ofBits .f32 0x3F000000#32

theorem half_eq : half = ((1 / 2 : ℝ) : EReal) := by
  unfold half
  simp [Ideal.ofBits, Ideal.ieee, -EReal.coe_mul]; norm_num

/-- The identity at a real number. -/
theorem sigmoid_real (r : ℝ) : (1 / 2) * Real.tanh (1 / 2 * r) + 1 / 2 = (1 + Real.exp (-r))⁻¹ := by
  have e : Real.exp (-r) = Real.exp (-(1 / 2 * r)) * Real.exp (-(1 / 2 * r)) := by
    rw [← Real.exp_add]; ring_nf
  have i : Real.exp (1 / 2 * r) * Real.exp (-(1 / 2 * r)) = 1 := by
    rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = a at *
  generalize Real.exp (-(1 / 2 * r)) = b at *
  have hb : b = a⁻¹ := by field_simp; linarith
  subst hb
  field_simp
  ring

/-- The half-angle form of the logistic function. -/
theorem sigmoid_eq (x : EReal) : half * Ideal.tanh (half * x) + half = sigmoid x := by
  rw [half_eq, sigmoid]
  induction x with
  | bot =>
    have h : ((1 / 2 : ℝ) : EReal) * (-1) + ((1 / 2 : ℝ) : EReal) = 0 := by
      rw [← EReal.coe_one, ← EReal.coe_neg, ← EReal.coe_mul, ← EReal.coe_add]; norm_num
    have he : Ideal.exp ⊤ = ⊤ := rfl
    have ht : Ideal.tanh ⊥ = -1 := rfl
    have hs : (1 : EReal) + ⊤ = ⊤ := rfl
    rw [EReal.coe_mul_bot_of_pos (by norm_num), EReal.neg_bot, he, ht, h, hs, Ideal.div, if_neg (by simp)]
    simp
  | top =>
    have h : ((1 / 2 : ℝ) : EReal) * 1 + ((1 / 2 : ℝ) : EReal) = 1 := by
      rw [← EReal.coe_one, ← EReal.coe_mul, ← EReal.coe_add]; norm_num
    have he : Ideal.exp ⊥ = 0 := rfl
    have ht : Ideal.tanh ⊤ = 1 := rfl
    rw [EReal.coe_mul_top_of_pos (by norm_num), EReal.neg_top, he, ht, h, add_zero, Ideal.div, if_neg one_ne_zero]
    simp
  | coe r =>
    rw [← EReal.coe_mul, ← EReal.coe_neg]
    have he : Ideal.exp ((-r : ℝ) : EReal) = (Real.exp (-r) : EReal) := rfl
    have ht : Ideal.tanh ((1 / 2 * r : ℝ) : EReal) = (Real.tanh (1 / 2 * r) : EReal) := rfl
    rw [he, ht, Ideal.div, ← EReal.coe_mul, ← EReal.coe_add, sigmoid_real, ← EReal.coe_one, ← EReal.coe_add, if_neg, ← EReal.coe_inv,
      ← EReal.coe_mul, one_mul]
    rw [EReal.coe_eq_zero]
    have := Real.exp_pos (-r)
    linarith

end Cert.Dcgru

end
-- ==== Proof.KernelCell0.lean ====
/-
  What one trip of the kernel's time loop computes for the first layer: the new hidden state of every packed batch
  element is the model's `cell` of the old one.
-/
module

public import proofs.«01_k».proof.Proof.Packed
public import proofs.«01_k».proof.Proof.Sigmoid
public import proofs.«01_k».proof.Proof.Gen.KernelIdeal.Skeleton

@[expose] public section

noncomputable section

namespace Cert.Dcgru

open Idealize.ShloMosaic Cert.KernelIdeal Cert.KernelIdeal.Gen

/-- Node `n`'s position in the row of pair `p` of a packed input. -/
abbrev xcol (p : Fin 16) (n : Fin 208) : Fin 3328 := ⟨p * 208 + n, by omega⟩

/-- The sum of six terms, regrouped from order by order to block by block. -/
theorem regroup (a b c d e f : EReal) : (a + b) + (c + d) + (e + f) = (b + d + f) + (a + c + e) := by abel

section

variable (v3 : FVec Ideal S16x208x208 .bf16) (v5 v7 v9 : FVec Ideal S132x384 .bf16) (v29 : FVec Ideal S1x256 .f32)
  (h : FVec Ideal S16x208x128 .f32) (x : FVec Ideal S1x4x3328 .f32)

/-- The support matrix of pair `p`. -/
abbrev sup (p : Fin 16) (n m : Fin 208) : EReal := v3 (ix3 p n m)

/-- Pair `p`'s lanes of a packed array. -/
abbrev lanes (p : Fin 16) (n : Fin 208) (l : Fin 128) : EReal := h (ix3 p n l)

/-- Pair `p`'s lanes of the packed input. -/
abbrev inLanes (p : Fin 16) (n : Fin 208) (j : Fin 4) : EReal := x (ix3 0 j (xcol p n))

/-- The input features' rows of the first product. -/
abbrev w0x (k : Fin 3) (j : Fin 4) (o : Fin 384) : EReal := (![v5, v7, v9] k : FVec Ideal S132x384 .bf16) (ix2 ⟨128 + j, by omega⟩ o)

/-- The hidden features' rows of the first product. -/
abbrev w0h (k : Fin 3) (l : Fin 128) (o : Fin 384) : EReal := (![v5, v7, v9] k : FVec Ideal S132x384 .bf16) (ix2 ⟨l, by omega⟩ o)

theorem pay10_at (p : Fin 16) (n : Fin 208) (o : Fin 384) :
    k0_pay10 v3 v5 v7 v9 h x (ix3 p n o) = first (sup v3 p) (w0x v5 v7 v9) (w0h v5 v7 v9) (inLanes x p) (lanes h p) n o := by
  rw [first, Fin.sum_univ_three, Fin.sum_univ_three]
  pointwise [k0_pay10]
  exact regroup _ _ _ _ _ _

theorem pay11_at (p : Fin 16) (n : Fin 208) (o : Fin 256) :
    k0_pay11 v3 v5 v7 v9 v29 h x (ix3 p n o)
      = sigmoid (first (sup v3 p) (w0x v5 v7 v9) (w0h v5 v7 v9) (inLanes x p) (lanes h p) n ⟨o, by omega⟩ + v29 (ix2 0 o)) := by
  rw [← sigmoid_eq, ← pay10_at]
  pointwise [k0_pay11]
  rfl

/-- The gates, as the first product's columns name them. -/
abbrev gates0 (p : Fin 16) (n : Fin 208) (g a : Fin 2) (u : Fin 64) : EReal :=
  sigmoid (first (sup v3 p) (w0x v5 v7 v9) (w0h v5 v7 v9) (inLanes x p) (lanes h p) n (gateCol (by omega) g a u)
    + v29 (ix2 0 (gateCol le_rfl g a u)))

theorem pay12_at (p : Fin 16) (n : Fin 208) (a : Fin 2) (u : Fin 64) :
    k0_pay12 v3 v5 v7 v9 v29 h x (ix3 p n (lane rfl a u)) = gates0 v3 v5 v7 v9 v29 h x p n 1 a u := by
  refine Eq.trans ?_ (pay11_at v3 v5 v7 v9 v29 h x p n (gateCol le_rfl 1 a u))
  pointwise [k0_pay12]
  rw [gateCol_one]

theorem pay13_at (p : Fin 16) (n : Fin 208) (a : Fin 2) (u : Fin 64) :
    k0_pay13 v3 v5 v7 v9 v29 h x (ix3 p n (lane rfl a u))
      = gates0 v3 v5 v7 v9 v29 h x p n 0 a u * lanes h p n (lane rfl a u) := by
  refine Eq.trans ?_ (congrArg (· * _) (pay11_at v3 v5 v7 v9 v29 h x p n (gateCol le_rfl 0 a u)))
  pointwise [k0_pay13]
  rw [gateCol_zero]

theorem pay14_at (p : Fin 16) (n : Fin 208) (l : Fin 128) :
    k0_pay14 v3 v5 v7 v9 v29 h x (ix3 p n l) = porder (sup v3 p) (fun n l => k0_pay13 v3 v5 v7 v9 v29 h x (ix3 p n l)) 1 n l := by
  pointwise [k0_pay14]
  rfl

theorem pay15_at (p : Fin 16) (n : Fin 208) (l : Fin 128) :
    k0_pay15 v3 v5 v7 v9 v29 h x (ix3 p n l) = porder (sup v3 p) (fun n l => k0_pay13 v3 v5 v7 v9 v29 h x (ix3 p n l)) 2 n l := by
  pointwise [k0_pay15]
  simp only [pay14_at]
  rfl

theorem pay16_at (p : Fin 16) (n : Fin 208) (a : Fin 2) (u : Fin 64) :
    k0_pay16 v3 v5 v7 v9 h x (ix3 p n (lane rfl a u))
      = first (sup v3 p) (w0x v5 v7 v9) (w0h v5 v7 v9) (inLanes x p) (lanes h p) n (candCol a u) := by
  rw [← pay10_at]
  pointwise [k0_pay16]

end

section

variable (v3 : FVec Ideal S16x208x208 .bf16) (v11 v13 v15 : FVec Ideal S128x128 .bf16) (v31 : FVec Ideal S1x128 .f32)
  (h u c : FVec Ideal S16x208x128 .f32) (r0 r1 r2 : FVec Ideal S16x208x128 .bf16)

/-- The second product's rows. -/
abbrev w0r (k : Fin 3) (l o : Fin 128) : EReal := (![v11, v13, v15] k : FVec Ideal S128x128 .bf16) (ix2 l o)

theorem pay17_at (p : Fin 16) (n : Fin 208) (o : Fin 128) :
    k0_pay17 v11 v13 v15 v31 h u r0 r1 r2 c (constant S16x208x128 .f32 0x00000000#32) (ix3 p n o)
      = u (ix3 p n o) * h (ix3 p n o) + (1 - u (ix3 p n o)) * Ideal.tanh (c (ix3 p n o)
        + (∑ l, r0 (ix3 p n l) * v11 (ix2 l o)) + (∑ l, r1 (ix3 p n l) * v13 (ix2 l o)) + (∑ l, r2 (ix3 p n l) * v15 (ix2 l o))
        + v31 (ix2 0 o)) := by
  pointwise [k0_pay17]

/-- The first layer's new hidden state, as one trip composes it. -/
abbrev new0 (v5 v7 v9 : FVec Ideal S132x384 .bf16) (v29 : FVec Ideal S1x256 .f32) (x : FVec Ideal S1x4x3328 .f32) :
    FVec Ideal S16x208x128 .f32 :=
  k0_pay17 v11 v13 v15 v31 h (k0_pay12 v3 v5 v7 v9 v29 h x) (k0_pay13 v3 v5 v7 v9 v29 h x) (k0_pay14 v3 v5 v7 v9 v29 h x)
    (k0_pay15 v3 v5 v7 v9 v29 h x) (k0_pay16 v3 v5 v7 v9 h x) (constant S16x208x128 .f32 0x00000000#32)

/-- The candidate's terms, regrouped: the first product's part, then the three orders of the second. -/
theorem regroup' (c s0 s1 s2 : EReal) : c + s0 + s1 + s2 = c + (s0 + s1 + s2) := by abel

/-- The first layer's new hidden state is the model's cell, element by element. -/
theorem new0_at {v5 v7 v9 : FVec Ideal S132x384 .bf16} {v29 : FVec Ideal S1x256 .f32} {x : FVec Ideal S1x4x3328 .f32}
    {S : Support} {L : Layer 2} {p : Fin 16} (hv : IsPadded (sup v3 p) S)
    (hL : IsLayer L (N := 4) rfl (w0x v5 v7 v9) (w0h v5 v7 v9) (w0r v11 v13 v15) (fun o => v29 (ix2 0 o)) (fun o => v31 (ix2 0 o)))
    {a : Fin 2} {X : Fin 2 → Signal} {H : Fin 64 → Signal}
    (hx : ∀ i m, inLanes x p (up m) (lane rfl a i) = X i m) (hh : ∀ u m, lanes h p (up m) (lane rfl a u) = H u m)
    (u : Fin 64) (n : Fin 207) :
    new0 v3 v11 v13 v15 v31 h v5 v7 v9 v29 x (ix3 p (up n) (lane rfl a u)) = cell L S X H u n := by
  have hg : ∀ g u n, gates0 v3 v5 v7 v9 v29 h x p (up n) g a u = gate L S X H g u n := fun g u n =>
    congrArg sigmoid (first_gate hv hL hx hh g u n)
  have hr : ∀ u n, k0_pay13 v3 v5 v7 v9 v29 h x (ix3 p (up n) (lane rfl a u)) = gate L S X H 0 u n * H u n := fun u n =>
    (pay13_at ..).trans (congrArg₂ _ (hg 0 u n) (hh u n))
  have hs := second_cand hv hL (h := fun n l => k0_pay13 v3 v5 v7 v9 v29 h x (ix3 p n l))
    (H := fun u m => gate L S X H 0 u m * H u m) hr u n
  have hc := first_cand hv hL hx hh u n
  rw [second, Fin.sum_univ_three] at hs
  refine (pay17_at ..).trans ?_
  rw [pay12_at, pay16_at, hg, hc]
  simp only [pay14_at, pay15_at]
  rw [cell, cand, pre]
  refine congrArg₂ _ (congrArg _ (hh u n)) (congrArg _ (congrArg _ (congrArg₂ _ ((regroup' ..).trans (congrArg _ hs)) (hL.cb a u))))

end

end Cert.Dcgru

end
-- ==== Proof.KernelCell1.lean ====
/-
  What one trip of the kernel's time loop computes for the second layer: its input is the first layer's new hidden
  state, and its new hidden state is the model's `cell` of the old one.
-/
module

public import proofs.«01_k».proof.Proof.KernelCell0

@[expose] public section

noncomputable section

namespace Cert.Dcgru

open Idealize.ShloMosaic Cert.KernelIdeal Cert.KernelIdeal.Gen

/-- The sum of six terms, regrouped from order by order to block by block, the input block first. -/
theorem regroupInput (a b c d e f : EReal) : (a + b) + (c + d) + (e + f) = (a + c + e) + (b + d + f) := by abel

section

variable (v3 : FVec Ideal S16x208x208 .bf16) (v11 v13 v15 : FVec Ideal S128x128 .bf16) (v17 v19 v21 : FVec Ideal S256x384 .bf16)
  (v31 : FVec Ideal S1x128 .f32) (v33 : FVec Ideal S1x256 .f32) (h0 h1 : FVec Ideal S16x208x128 .f32)
  (u : FVec Ideal S16x208x128 .f32) (r0 r1 r2 : FVec Ideal S16x208x128 .bf16) (c z : FVec Ideal S16x208x128 .f32)

/-- The input features' rows of the first product. -/
abbrev w1x (k : Fin 3) (j : Fin 128) (o : Fin 384) : EReal := (![v17, v19, v21] k : FVec Ideal S256x384 .bf16) (ix2 ⟨j, by omega⟩ o)

/-- The hidden features' rows of the first product. -/
abbrev w1h (k : Fin 3) (l : Fin 128) (o : Fin 384) : EReal := (![v17, v19, v21] k : FVec Ideal S256x384 .bf16) (ix2 ⟨128 + l, by omega⟩ o)

/-- The first layer's new hidden state, which is the second layer's input. -/
abbrev input1 : FVec Ideal S16x208x128 .f32 := k0_pay17 v11 v13 v15 v31 h0 u r0 r1 r2 c z

theorem pay18_at (p : Fin 16) (n : Fin 208) (o : Fin 384) :
    k0_pay18 v3 v11 v13 v15 v17 v19 v21 v31 h0 h1 u r0 r1 r2 c z (ix3 p n o)
      = first (sup v3 p) (w1x v17 v19 v21) (w1h v17 v19 v21) (lanes (input1 v11 v13 v15 v31 h0 u r0 r1 r2 c z) p) (lanes h1 p) n o := by
  rw [first, Fin.sum_univ_three, Fin.sum_univ_three]
  pointwise [k0_pay18]
  exact regroupInput _ _ _ _ _ _

theorem pay19_at (p : Fin 16) (n : Fin 208) (o : Fin 256) :
    k0_pay19 v3 v11 v13 v15 v17 v19 v21 v31 v33 h0 h1 u r0 r1 r2 c z (ix3 p n o)
      = sigmoid (first (sup v3 p) (w1x v17 v19 v21) (w1h v17 v19 v21) (lanes (input1 v11 v13 v15 v31 h0 u r0 r1 r2 c z) p)
          (lanes h1 p) n ⟨o, by omega⟩ + v33 (ix2 0 o)) := by
  rw [← sigmoid_eq, ← pay18_at]
  pointwise [k0_pay19]
  rfl

/-- The gates, as the first product's columns name them. -/
abbrev gates1 (p : Fin 16) (n : Fin 208) (g a : Fin 2) (w : Fin 64) : EReal :=
  sigmoid (first (sup v3 p) (w1x v17 v19 v21) (w1h v17 v19 v21) (lanes (input1 v11 v13 v15 v31 h0 u r0 r1 r2 c z) p)
    (lanes h1 p) n (gateCol (by omega) g a w) + v33 (ix2 0 (gateCol le_rfl g a w)))

theorem pay20_at (p : Fin 16) (n : Fin 208) (a : Fin 2) (w : Fin 64) :
    k0_pay20 v3 v11 v13 v15 v17 v19 v21 v31 v33 h0 h1 u r0 r1 r2 c z (ix3 p n (lane rfl a w))
      = gates1 v3 v11 v13 v15 v17 v19 v21 v31 v33 h0 h1 u r0 r1 r2 c z p n 1 a w := by
  refine Eq.trans ?_ (pay19_at v3 v11 v13 v15 v17 v19 v21 v31 v33 h0 h1 u r0 r1 r2 c z p n (gateCol le_rfl 1 a w))
  pointwise [k0_pay20]
  rw [gateCol_one]

theorem pay21_at (p : Fin 16) (n : Fin 208) (a : Fin 2) (w : Fin 64) :
    k0_pay21 v3 v11 v13 v15 v17 v19 v21 v31 v33 h0 h1 u r0 r1 r2 c z (ix3 p n (lane rfl a w))
      = gates1 v3 v11 v13 v15 v17 v19 v21 v31 v33 h0 h1 u r0 r1 r2 c z p n 0 a w * lanes h1 p n (lane rfl a w) := by
  refine Eq.trans ?_ (congrArg (· * _) (pay19_at v3 v11 v13 v15 v17 v19 v21 v31 v33 h0 h1 u r0 r1 r2 c z p n (gateCol le_rfl 0 a w)))
  pointwise [k0_pay21]
  rw [gateCol_zero]

theorem pay22_at (p : Fin 16) (n : Fin 208) (l : Fin 128) :
    k0_pay22 v3 v11 v13 v15 v17 v19 v21 v31 v33 h0 h1 u r0 r1 r2 c z (ix3 p n l)
      = ∑ m, sup v3 p n m * k0_pay21 v3 v11 v13 v15 v17 v19 v21 v31 v33 h0 h1 u r0 r1 r2 c z (ix3 p m l) := by
  pointwise [k0_pay22]

end

section

variable (v3 : FVec Ideal S16x208x208 .bf16) (v23 : FVec Ideal S128x128 .bf16) (v24 v26 : FVec Ideal S1x128x128 .bf16)
  (v34 : FVec Ideal S1x128 .f32) (h1 : FVec Ideal S16x208x128 .f32) (c : FVec Ideal S16x208x384 .f32)
  (u : FVec Ideal S16x208x128 .f32) (r0 r1 : FVec Ideal S16x208x128 .bf16)

/-- The second product's rows. -/
abbrev w1r (k : Fin 3) (l o : Fin 128) : EReal :=
  (![fun l o => v23 (ix2 l o), fun l o => v24 (ix3 0 l o), fun l o => v26 (ix3 0 l o)] : Fin 3 → Fin 128 → Fin 128 → EReal) k l o

theorem pay7_at (hr : ∀ p n l, r1 (ix3 p n l) = ∑ m, sup v3 p n m * r0 (ix3 p m l)) (p : Fin 16) (n : Fin 208) (a : Fin 2) (w : Fin 64) :
    k0_pay7 v3 v23 v24 v26 v34 h1 c u r0 r1 (ix3 p n (lane rfl a w))
      = u (ix3 p n (lane rfl a w)) * h1 (ix3 p n (lane rfl a w))
        + (1 - u (ix3 p n (lane rfl a w))) * Ideal.tanh (c (ix3 p n (candCol a w))
          + second (sup v3 p) (w1r v23 v24 v26) (fun n l => r0 (ix3 p n l)) n (lane rfl a w) + v34 (ix2 0 (lane rfl a w))) := by
  rw [second, Fin.sum_univ_three, ← regroup']
  pointwise [k0_pay7]
  simp only [hr]
  rfl

theorem pay8_at (last : FVec Ideal S16x208x128 .f32) (k : FVec Ideal S1x16x128 .f32) (p : Fin 16) (n : Fin 208) (l : Fin 128) :
    k0_pay8 v3 v23 v24 v26 v34 h1 last c u r0 r1 k (ix3 p n l)
      = last (ix3 p n l) + k0_pay7 v3 v23 v24 v26 v34 h1 c u r0 r1 (ix3 p n l) * k (ix3 0 p l) := by
  pointwise [k0_pay8]

end

section

variable (v3 : FVec Ideal S16x208x208 .bf16) (v11 v13 v15 : FVec Ideal S128x128 .bf16) (v17 v19 v21 : FVec Ideal S256x384 .bf16)
  (v23 : FVec Ideal S128x128 .bf16) (v24 v26 : FVec Ideal S1x128x128 .bf16)
  (v31 : FVec Ideal S1x128 .f32) (v33 : FVec Ideal S1x256 .f32) (v34 : FVec Ideal S1x128 .f32) (h0 h1 : FVec Ideal S16x208x128 .f32)
  (u : FVec Ideal S16x208x128 .f32) (r0 r1 r2 : FVec Ideal S16x208x128 .bf16) (c z : FVec Ideal S16x208x128 .f32)

/-- The second layer's new hidden state, as one trip composes it. -/
abbrev new1 : FVec Ideal S16x208x128 .f32 :=
  k0_pay7 v3 v23 v24 v26 v34 h1 (k0_pay18 v3 v11 v13 v15 v17 v19 v21 v31 h0 h1 u r0 r1 r2 c z)
    (k0_pay20 v3 v11 v13 v15 v17 v19 v21 v31 v33 h0 h1 u r0 r1 r2 c z) (k0_pay21 v3 v11 v13 v15 v17 v19 v21 v31 v33 h0 h1 u r0 r1 r2 c z)
    (k0_pay22 v3 v11 v13 v15 v17 v19 v21 v31 v33 h0 h1 u r0 r1 r2 c z)

/-- The second layer's new hidden state is the model's cell, element by element. -/
theorem new1_at {S : Support} {L : Layer 64} {p : Fin 16} (hv : IsPadded (sup v3 p) S)
    (hL : IsLayer L (N := 128) rfl (w1x v17 v19 v21) (w1h v17 v19 v21) (w1r v23 v24 v26) (fun o => v33 (ix2 0 o)) (fun o => v34 (ix2 0 o)))
    {a : Fin 2} {X H : Fin 64 → Signal}
    (hx : ∀ i m, input1 v11 v13 v15 v31 h0 u r0 r1 r2 c z (ix3 p (up m) (lane rfl a i)) = X i m)
    (hh : ∀ w m, lanes h1 p (up m) (lane rfl a w) = H w m) (w : Fin 64) (n : Fin 207) :
    new1 v3 v11 v13 v15 v17 v19 v21 v23 v24 v26 v31 v33 v34 h0 h1 u r0 r1 r2 c z (ix3 p (up n) (lane rfl a w)) = cell L S X H w n := by
  have hg : ∀ g w n, gates1 v3 v11 v13 v15 v17 v19 v21 v31 v33 h0 h1 u r0 r1 r2 c z p (up n) g a w = gate L S X H g w n :=
    fun g w n => congrArg sigmoid (first_gate hv hL (x := lanes (input1 v11 v13 v15 v31 h0 u r0 r1 r2 c z) p) hx hh g w n)
  have hr : ∀ w n, k0_pay21 v3 v11 v13 v15 v17 v19 v21 v31 v33 h0 h1 u r0 r1 r2 c z (ix3 p (up n) (lane rfl a w))
      = gate L S X H 0 w n * H w n := fun w n => (pay21_at ..).trans (congrArg₂ _ (hg 0 w n) (hh w n))
  have hs := second_cand hv hL (h := fun n l => k0_pay21 v3 v11 v13 v15 v17 v19 v21 v31 v33 h0 h1 u r0 r1 r2 c z (ix3 p n l))
    (H := fun w m => gate L S X H 0 w m * H w m) hr w n
  have hc := first_cand hv hL (x := lanes (input1 v11 v13 v15 v31 h0 u r0 r1 r2 c z) p) hx hh w n
  refine (pay7_at v3 v23 v24 v26 v34 h1 _ _ _ _ (fun p n l => pay22_at v3 v11 v13 v15 v17 v19 v21 v31 v33 h0 h1 u r0 r1 r2 c z p n l)
    p (up n) a w).trans ?_
  rw [pay20_at, pay18_at, hg, hc, hs, cell, cand, pre]
  exact congrArg₂ _ (congrArg _ (hh w n)) (congrArg _ (congrArg _ (congrArg _ (hL.cb a w))))

end

end Cert.Dcgru

end
-- ==== Proof.KernelTrip.lean ====
/-
  One trip of the kernel's time loop, on the values the loop reads: the support matrix, the packed weights and biases.
  `Operands` names those values, `Models` says that they are a given model's packed parameters, and `Packs` that an array
  holds a family of hidden states. A trip takes packed hidden states to the packed states of the next time step.
-/
module

public import proofs.«01_k».proof.Proof.KernelCell1

@[expose] public section

noncomputable section

namespace Cert.Dcgru

open Idealize.ShloMosaic Cert.KernelIdeal Cert.KernelIdeal.Gen

/-- The values bound before the loop that a trip reads. -/
structure Operands where
  S : FVec Ideal S16x208x208 .bf16
  w0 : Fin 3 → FVec Ideal S132x384 .bf16
  wr0 : Fin 3 → FVec Ideal S128x128 .bf16
  w1 : Fin 3 → FVec Ideal S256x384 .bf16
  wr1 : FVec Ideal S128x128 .bf16
  wr1' : Fin 2 → FVec Ideal S1x128x128 .bf16
  bg0 : FVec Ideal S1x256 .f32
  bc0 : FVec Ideal S1x128 .f32
  bg1 : FVec Ideal S1x256 .f32
  bc1 : FVec Ideal S1x128 .f32

namespace Operands

variable (o : Operands) (h0 h1 last : FVec Ideal S16x208x128 .f32) (x : FVec Ideal S1x4x3328 .f32) (k : FVec Ideal S1x16x128 .f32)

/-- The first layer's new hidden state. -/
def next0 : FVec Ideal S16x208x128 .f32 :=
  new0 o.S (o.wr0 0) (o.wr0 1) (o.wr0 2) o.bc0 h0 (o.w0 0) (o.w0 1) (o.w0 2) o.bg0 x

/-- The second layer's new hidden state. -/
def next1 : FVec Ideal S16x208x128 .f32 :=
  new1 o.S (o.wr0 0) (o.wr0 1) (o.wr0 2) (o.w1 0) (o.w1 1) (o.w1 2) o.wr1 (o.wr1' 0) (o.wr1' 1) o.bc0 o.bg1 o.bc1 h0 h1
    (k0_pay12 o.S (o.w0 0) (o.w0 1) (o.w0 2) o.bg0 h0 x) (k0_pay13 o.S (o.w0 0) (o.w0 1) (o.w0 2) o.bg0 h0 x)
    (k0_pay14 o.S (o.w0 0) (o.w0 1) (o.w0 2) o.bg0 h0 x) (k0_pay15 o.S (o.w0 0) (o.w0 1) (o.w0 2) o.bg0 h0 x)
    (k0_pay16 o.S (o.w0 0) (o.w0 1) (o.w0 2) h0 x) (constant S16x208x128 .f32 0x00000000#32)

/-- The running selection: the old one plus the masked new hidden state. -/
def nextLast : FVec Ideal S16x208x128 .f32 := fun i => last i + o.next1 h0 h1 x i * k (ix3 0 (i 0) (i 2))

/-- The operands hold a model's parameters. -/
structure Models (S : Support) (L0 : Layer 2) (L1 : Layer 64) : Prop where
  sup : ∀ p, IsPadded (Dcgru.sup o.S p) S
  layer0 : IsLayer L0 (N := 4) rfl (w0x (o.w0 0) (o.w0 1) (o.w0 2)) (w0h (o.w0 0) (o.w0 1) (o.w0 2))
    (w0r (o.wr0 0) (o.wr0 1) (o.wr0 2)) (fun l => o.bg0 (ix2 0 l)) (fun l => o.bc0 (ix2 0 l))
  layer1 : IsLayer L1 (N := 128) rfl (w1x (o.w1 0) (o.w1 1) (o.w1 2)) (w1h (o.w1 0) (o.w1 1) (o.w1 2))
    (w1r o.wr1 (o.wr1' 0) (o.wr1' 1)) (fun l => o.bg1 (ix2 0 l)) (fun l => o.bc1 (ix2 0 l))

end Operands

/-- Batch element `2·p + a`: element `a` of pair `p`. -/
abbrev batch (p : Fin 16) (a : Fin 2) : Fin 32 := ⟨p * 2 + a, by omega⟩

/-- An array holds a family of hidden states, one per batch element. -/
def Packs (A : FVec Ideal S16x208x128 .f32) (H : Fin 32 → Fin 64 → Signal) : Prop :=
  ∀ p a u n, A (ix3 p (up n) (lane rfl a u)) = H (batch p a) u n

/-- A packed input block holds one time step's inputs. -/
def PacksInput (x : FVec Ideal S1x4x3328 .f32) (X : Fin 32 → Fin 2 → Signal) : Prop :=
  ∀ p a i n, x (ix3 0 (lane rfl a i) (xcol p (up n))) = X (batch p a) i n

namespace Operands

variable {o : Operands} {S : Support} {L0 : Layer 2} {L1 : Layer 64} (ho : o.Models S L0 L1)
  {h0 h1 last : FVec Ideal S16x208x128 .f32} {x : FVec Ideal S1x4x3328 .f32} {k : FVec Ideal S1x16x128 .f32}
  {X : Fin 32 → Fin 2 → Signal} {H0 H1 : Fin 32 → Fin 64 → Signal} (hx : PacksInput x X) (hh0 : Packs h0 H0) (hh1 : Packs h1 H1)

include ho hx hh0

theorem next0_packs : Packs (o.next0 h0 x) fun b => cell L0 S (X b) (H0 b) := fun p a u n =>
  new0_at _ _ _ _ _ _ (ho.sup p) ho.layer0 (fun i m => hx p a i m) (fun u m => hh0 p a u m) u n

include hh1

theorem next1_packs : Packs (o.next1 h0 h1 x) fun b => cell L1 S (cell L0 S (X b) (H0 b)) (H1 b) := fun p a u n =>
  new1_at _ _ _ _ _ _ _ _ _ _ _ _ _ _ _ _ _ _ _ _ _ (ho.sup p) ho.layer1 (fun i m => next0_packs ho hx hh0 p a i m) (fun u m => hh1 p a u m) u n

end Operands

end Cert.Dcgru

end
-- ==== Proof.KernelLoop.lean ====
/-
  The kernel's time loop. `loop` runs the trips of the source's counted loop on plain arrays; the compiled loop's state
  is `loop` of the values bound before it (`state_eq`), and the block the kernel stores is the classifier of `loop`'s
  running selection after twelve trips (`outsAt0_eq`).
-/
module

public import proofs.«01_k».proof.Proof.KernelTrip
public import proofs.«01_k».proof.Proof.Gen.KernelIdeal.Frame

@[expose] public section

noncomputable section

namespace Cert.Dcgru

open Idealize.ShloMosaic Idealize.ShloMosaic.TcCoe Idealize.SL.Sem Cert.KernelIdeal Cert.KernelIdeal.Gen

/-- The inputs of trip `k`, as the loop loads them. -/
def inputAt (x : Vec Ideal S12x4x3328 .f32) (k : Fin k0_t1_loop.trips) : FVec Ideal S1x4x3328 .f32 :=
  View.ld x (Rect.unit (s := S12x4x3328) (k0_off1 k) S1x4x3328.size (k0_off1_inb k))

/-- The selection mask of trip `k`, as the loop loads it. -/
def maskAt (x : Vec Ideal S12x16x128 .f32) (k : Fin k0_t1_loop.trips) : FVec Ideal S1x16x128 .f32 :=
  View.ld x (Rect.unit (s := S12x16x128) (k0_off2 k) S1x16x128.size (k0_off2_inb k))

/-- The carried triple: both hidden states and the running selection. -/
abbrev Carried : Type := FVec Ideal S16x208x128 .f32 × FVec Ideal S16x208x128 .f32 × FVec Ideal S16x208x128 .f32

/-- One trip on the carried triple. -/
def trip (o : Operands) (x : FVec Ideal S1x4x3328 .f32) (k : FVec Ideal S1x16x128 .f32) (s : Carried) : Carried :=
  (o.next0 s.1 x, o.next1 s.1 s.2.1 x, o.nextLast s.1 s.2.1 s.2.2 x k)

/-- The carried triple after the first `n` trips. -/
def loop (o : Operands) (x : Vec Ideal S12x4x3328 .f32) (k : Vec Ideal S12x16x128 .f32) (s : Carried) : Nat → Carried
  | 0 => s
  | n + 1 => if h : n < k0_t1_loop.trips then trip o (inputAt x ⟨n, h⟩) (maskAt k ⟨n, h⟩) (loop o x k s n) else loop o x k s n

/-- The values a trip reads, from the values bound before the loop. -/
abbrev bound (v3 : FVec Ideal S16x208x208 .bf16) (v5 v7 v9 : FVec Ideal S132x384 .bf16) (v11 v13 v15 : FVec Ideal S128x128 .bf16)
    (v17 v19 v21 : FVec Ideal S256x384 .bf16) (v23 : FVec Ideal S128x128 .bf16) (v24 v26 : Vec Ideal S1x128x128 .bf16)
    (v28 : Vec Ideal S1x256 .f32) (v30 : Vec Ideal S1x128 .f32) (v32 : Vec Ideal S1x256 .f32) (v34 : Vec Ideal S1x128 .f32) : Operands where
  S := v3
  w0 := ![v5, v7, v9]
  wr0 := ![v11, v13, v15]
  w1 := ![v17, v19, v21]
  wr1 := v23
  wr1' := ![v24, v26]
  bg0 := k0_pay1 v28
  bc0 := k0_pay2 v30
  bg1 := k0_pay3 v32
  bc1 := v34

section State

variable {c : Dev nD}
  {a0 : Memref sig .tc .vmem S12x4x3328 .f32} {i0 : a0.IsWhole}
  {a1 : Memref sig .tc .vmem S208x208 .bf16} {i1 : a1.IsWhole}
  {a2 : Memref sig .tc .vmem S3x132x384 .bf16} {i2 : a2.IsWhole}
  {a3 : Memref sig .tc .vmem S3x128x128 .bf16} {i3 : a3.IsWhole}
  {a4 : Memref sig .tc .vmem S1x256 .f32} {i4 : a4.IsWhole}
  {a5 : Memref sig .tc .vmem S1x128 .f32} {i5 : a5.IsWhole}
  {a6 : Memref sig .tc .vmem S3x256x384 .bf16} {i6 : a6.IsWhole}
  {a7 : Memref sig .tc .vmem S3x128x128 .bf16} {i7 : a7.IsWhole}
  {a8 : Memref sig .tc .vmem S1x256 .f32} {i8 : a8.IsWhole}
  {a9 : Memref sig .tc .vmem S1x128 .f32} {i9 : a9.IsWhole}
  {a10 : Memref sig .tc .vmem S128x10 .bf16} {i10 : a10.IsWhole}
  {a11 : Memref sig .tc .vmem S1x10 .f32} {i11 : a11.IsWhole}
  {a12 : Memref sig .tc .vmem S12x16x128 .f32} {i12 : a12.IsWhole}
  {a13 : Memref sig .tc .vmem S16x10 .f32} {i13 : a13.IsWhole}
  {v3 : FVec Ideal S16x208x208 .bf16} {v5 v7 v9 : FVec Ideal S132x384 .bf16} {v11 v13 v15 : FVec Ideal S128x128 .bf16}
  {v17 v19 v21 : FVec Ideal S256x384 .bf16} {v23 : FVec Ideal S128x128 .bf16} {v24 v26 : Vec Ideal S1x128x128 .bf16}
  {v28 : Vec Ideal S1x256 .f32} {v30 : Vec Ideal S1x128 .f32} {v32 : Vec Ideal S1x256 .f32} {v34 : Vec Ideal S1x128 .f32}
  (x : Vec Ideal S12x4x3328 .f32) (y : Vec Ideal S12x16x128 .f32)

/-- One compiled trip is `trip` of its loads. -/
theorem trip_eq (k : Fin k0_t1_loop.trips) (s : Carried) :
    tripR_k0_t1 Variants.none c none a0 i0 a1 i1 a2 i2 a3 i3 a4 i4 a5 i5 a6 i6 a7 i7 a8 i8 a9 i9 a10 i10 a11 i11 a12 i12 a13 i13 v3 v5 v7 v9 v11 v13 v15 v17 v19 v21 v23 v24 v26 v28 v30 v32 v34 (i0.unread x) (i12.unread y) k s
      = trip (bound v3 v5 v7 v9 v11 v13 v15 v17 v19 v21 v23 v24 v26 v28 v30 v32 v34) (inputAt x k) (maskAt y k) s := by
  obtain ⟨h0, h1, l⟩ := s
  have hl : ∀ (q : FVec Ideal S1x16x128 .f32) c u r0 r1, k0_pay8 v3 v23 v24 v26 v34 h1 l c u r0 r1 q
      = fun i => l i + k0_pay7 v3 v23 v24 v26 v34 h1 c u r0 r1 i * q (ix3 0 (i 0) (i 2)) := by
    intro q c u r0 r1
    funext i
    idx_vars i
    refine (pay8_at ..).trans ?_
    rfl
  have e : tripR_k0_t1 Variants.none c none a0 i0 a1 i1 a2 i2 a3 i3 a4 i4 a5 i5 a6 i6 a7 i7 a8 i8 a9 i9 a10 i10 a11 i11 a12 i12 a13 i13 v3 v5 v7 v9 v11 v13 v15 v17 v19 v21 v23 v24 v26 v28 v30 v32 v34 (i0.unread x) (i12.unread y) k (h0, h1, l)
      = trip (bound v3 v5 v7 v9 v11 v13 v15 v17 v19 v21 v23 v24 v26 v28 v30 v32 v34)
        (View.readAt (Elt Ideal) a0.view (Rect.unit (s := S12x4x3328) (k0_off1 k) S1x4x3328.size (k0_off1_inb k)).toLoadRect (i0.unread x))
        (View.readAt (Elt Ideal) a12.view (Rect.unit (s := S12x16x128) (k0_off2 k) S1x16x128.size (k0_off2_inb k)).toLoadRect
          (i12.unread y)) (h0, h1, l) := by
    unfold tripR_k0_t1 trip_k0_t1
    dsimp only
    rw [hl]
    rfl
  rw [e, View.readAt_eq_ld, View.readAt_eq_ld, i0.read_unread, i12.read_unread]
  rfl

/-- The compiled loop's state is `loop`'s. -/
theorem state_eq (s : Carried) (n : Nat) (hn : n ≤ k0_t1_loop.trips) :
    st_k0_t1 Variants.none c none a0 i0 a1 i1 a2 i2 a3 i3 a4 i4 a5 i5 a6 i6 a7 i7 a8 i8 a9 i9 a10 i10 a11 i11 a12 i12 a13 i13 v3 v5 v7 v9 v11 v13 v15 v17 v19 v21 v23 v24 v26 v28 v30 v32 v34 (i0.unread x) (i12.unread y) s n
      = loop (bound v3 v5 v7 v9 v11 v13 v15 v17 v19 v21 v23 v24 v26 v28 v30 v32 v34) x y s n := by
  induction n with
  | zero => rfl
  | succ n ih =>
    refine (st_k0_t1_succ Variants.none c none a0 i0 a1 i1 a2 i2 a3 i3 a4 i4 a5 i5 a6 i6 a7 i7 a8 i8 a9 i9 a10 i10 a11 i11 a12 i12 a13 i13 v3 v5 v7 v9 v11 v13 v15 v17 v19 v21 v23 v24 v26 v28 v30 v32 v34 (i0.unread x) (i12.unread y) s ⟨n, hn⟩).trans ?_
    rw [trip_eq, ih (by omega), loop, dif_pos (show n < _ from hn)]

end State

theorem zero2 : (![0, 0] : Fin 2 → Nat) = fun _ => 0 := funext fun a => by fin_cases a <;> rfl

/-- Slab `k` of a rank-3 array, as a load reads it. -/
abbrev slab {A B C : Nat} {e : EltTy} (X : Vec Ideal ⟨3, ![A, B, C]⟩ e) (k : Nat)
    (h : ∀ a, (![k, 0, 0] : Fin 3 → Nat) a + (![1, B, C] : Fin 3 → Nat) a ≤ (![A, B, C] : Fin 3 → Nat) a) : Vec Ideal ⟨3, ![1, B, C]⟩ e :=
  View.ld X (Rect.unit (s := ⟨3, ![A, B, C]⟩) ![k, 0, 0] ![1, B, C] h)

/-- The values bound before the loop, from the arrays the kernel is given. -/
def operands (x1 : Vec Ideal S208x208 .bf16) (x2 : Vec Ideal S3x132x384 .bf16) (x3 : Vec Ideal S3x128x128 .bf16)
    (x4 : Vec Ideal S1x256 .f32) (x5 : Vec Ideal S1x128 .f32) (x6 : Vec Ideal S3x256x384 .bf16) (x7 : Vec Ideal S3x128x128 .bf16)
    (x8 : Vec Ideal S1x256 .f32) (x9 : Vec Ideal S1x128 .f32) : Operands :=
  bound (k0_pay23 x1) (k0_pay24 (slab x2 0 (by decide))) (k0_pay25 (slab x2 1 (by decide))) (k0_pay26 (slab x2 2 (by decide)))
    (k0_pay27 (slab x3 0 (by decide))) (k0_pay28 (slab x3 1 (by decide))) (k0_pay29 (slab x3 2 (by decide)))
    (k0_pay30 (slab x6 0 (by decide))) (k0_pay31 (slab x6 1 (by decide))) (k0_pay32 (slab x6 2 (by decide)))
    (k0_pay33 (slab x7 0 (by decide))) (slab x7 1 (by decide)) (slab x7 2 (by decide)) x4 x5 x8 x9

variable (m : (ℓ : Loc nD τ sig) → Buf (Elt Ideal) ℓ)

/-- The block the kernel stores. -/
theorem outsAt0_eq (c : Dev nD) (t : Fin cfg0.N) :
    outsAt0 m c t
      = k0_pay9 (loop (operands (iblk m c 1 t) (iblk m c 2 t) (iblk m c 3 t) (iblk m c 4 t) (iblk m c 5 t) (iblk m c 6 t)
          (iblk m c 7 t) (iblk m c 8 t) (iblk m c 9 t)) (iblk m c 0 t) (iblk m c 12 t) (k0_pay4, k0_pay5, k0_pay6)
          k0_t1_loop.trips).2.2 (iblk m c 10 t) (iblk m c 11 t) := by
  unfold outsAt0 out0_A_13
  refine (View.read_writes_eq_canon _ _ _ (fun y => cover0_A_13 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y)).trans ?_
  unfold kernelRun0_A
  dsimp only
  sl_unfold_words
  rw [View.canon_unit_zero zero2]
  rw [state_eq _ _ _ _ le_rfl]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread,
    View.ld_unit_zero (S := S208x208) zero2, View.ld_unit_zero (S := S1x256) zero2, View.ld_unit_zero (S := S1x128) zero2,
    View.ld_unit_zero (S := S128x10) zero2, View.ld_unit_zero (S := S1x10) zero2]
  rfl

end Cert.Dcgru

end
-- ==== Proof.KernelScore.lean ====
/-
  The loop's invariant and the classifier. Before every trip the carried arrays hold the hidden states of that time step,
  and the running selection holds each batch element's hidden state at its last relevant step once that step has passed.
  After the loop the classifier's block holds each batch element's class scores.
-/
module

public import proofs.«01_k».proof.Proof.KernelLoop

@[expose] public section

noncomputable section

namespace Cert.Dcgru

open Idealize.ShloMosaic Cert.KernelIdeal Cert.KernelIdeal.Gen

/-- The selection mask holds 1 on the lanes of a batch element at its last relevant step, and 0 elsewhere. -/
def Selects (k : FVec Ideal S1x16x128 .f32) (J : Fin 32 → Nat) (t : Nat) : Prop :=
  ∀ p a (u : Fin 64), k (ix3 0 p (lane rfl a u)) = if J (batch p a) = t then 1 else 0

/-- The hidden state selected before step `t`: the last relevant one if it has passed, zero otherwise. -/
def chosen (L0 : Layer 2) (L1 : Layer 64) (S : Support) (x : ℕ → Fin 2 → Signal) (j t : Nat) : Fin 64 → Signal :=
  if j < t then (states L0 L1 S x (j + 1)).2 else fun _ _ => 0

/-- Adding a step's masked hidden state to the selection before the step gives the selection after it. -/
theorem chosen_succ (L0 : Layer 2) (L1 : Layer 64) (S : Support) (x : ℕ → Fin 2 → Signal) (j t : Nat) (u : Fin 64) (n : Fin 207) :
    chosen L0 L1 S x j t u n + (states L0 L1 S x (t + 1)).2 u n * (if j = t then 1 else 0) = chosen L0 L1 S x j (t + 1) u n := by
  unfold chosen
  rcases lt_trichotomy j t with h | h | h
  · rw [if_pos h, if_neg (by omega), if_pos (by omega), mul_zero, add_zero]
  · subst h
    rw [if_neg (by omega), if_pos rfl, if_pos (by omega), mul_one, zero_add]
  · rw [if_neg (by omega), if_neg (by omega), if_neg (by omega), mul_zero, add_zero]

variable {o : Operands} {S : Support} {L0 : Layer 2} {L1 : Layer 64} (ho : o.Models S L0 L1)
  {x : Vec Ideal S12x4x3328 .f32} {y : Vec Ideal S12x16x128 .f32} {X : Fin 32 → ℕ → Fin 2 → Signal} {J : Fin 32 → Nat}
  (hx : ∀ k, PacksInput (inputAt x k) fun b => X b k) (hy : ∀ k, Selects (maskAt y k) J k)

include ho hx hy

/-- The loop's invariant. -/
theorem loop_packs (n : Nat) (hn : n ≤ k0_t1_loop.trips) :
    Packs (loop o x y (k0_pay4, k0_pay5, k0_pay6) n).1 (fun b => (states L0 L1 S (X b) n).1)
      ∧ Packs (loop o x y (k0_pay4, k0_pay5, k0_pay6) n).2.1 (fun b => (states L0 L1 S (X b) n).2)
      ∧ Packs (loop o x y (k0_pay4, k0_pay5, k0_pay6) n).2.2 (fun b => chosen L0 L1 S (X b) (J b) n) := by
  induction n with
  | zero =>
    refine ⟨fun p a u n => ?_, fun p a u n => ?_, fun p a u n => ?_⟩
    · show (k0_pay4 : FVec Ideal S16x208x128 .f32) (ix3 p (up n) (lane rfl a u)) = 0
      pointwise [k0_pay4]
    · show (k0_pay5 : FVec Ideal S16x208x128 .f32) (ix3 p (up n) (lane rfl a u)) = 0
      pointwise [k0_pay5]
    · show (k0_pay6 : FVec Ideal S16x208x128 .f32) (ix3 p (up n) (lane rfl a u)) = 0
      pointwise [k0_pay6]
  | succ n ih =>
    obtain ⟨i0, i1, il⟩ := ih (by omega)
    rw [loop, dif_pos (show n < _ from hn)]
    have e1 := Operands.next1_packs ho (hx ⟨n, hn⟩) i0 i1
    refine ⟨Operands.next0_packs ho (hx ⟨n, hn⟩) i0, e1, fun p a u m => ?_⟩
    refine Eq.trans ?_ (chosen_succ L0 L1 S (X (batch p a)) (J (batch p a)) n u m)
    exact congrArg₂ (· + ·) (il p a u m) (congrArg₂ (· * ·) (e1 p a u m) (hy ⟨n, hn⟩ p a u))

omit ho hx hy in
/-- The classifier's block, element by element. -/
theorem pay9_at (v : FVec Ideal S16x208x128 .f32) (w : Vec Ideal S128x10 .bf16) (b : Vec Ideal S1x10 .f32) (p : Fin 16) (l : Fin 10) :
    k0_pay9 v w b (ix2 p l)
      = Finset.univ.fold max ⊥ fun n : Fin 207 => (∑ j, max (v (ix3 p (up n) j)) 0 * w (ix2 j l)) + b (ix2 0 l) := by
  pointwise [k0_pay9]
  rw [negInf_eq]

/-- The block the kernel stores holds the class scores of every batch element. -/
theorem block_at {w : Vec Ideal S128x10 .bf16} {b : Vec Ideal S1x10 .f32} {W : Fin 64 → Fin 5 → EReal} {B : Fin 5 → EReal}
    (hw : ∀ (a a' : Fin 2) u (q : Fin 5), w (ix2 (lane rfl a' u) ⟨a * 5 + q, by omega⟩) = if a' = a then W u q else 0)
    (hb : ∀ (a : Fin 2) (q : Fin 5), b (ix2 0 ⟨a * 5 + q, by omega⟩) = B q) (hJ : ∀ b, J b < 12) (p : Fin 16) (a : Fin 2) (q : Fin 5) :
    k0_pay9 (loop o x y (k0_pay4, k0_pay5, k0_pay6) k0_t1_loop.trips).2.2 w b (ix2 p ⟨a * 5 + q, by omega⟩)
      = score (states L0 L1 S (X (batch p a)) (J (batch p a) + 1)).2 (fun u => W u q) (B q) := by
  have ht : k0_t1_loop.trips = 12 := by decide +kernel
  have hl := (loop_packs ho hx hy _ le_rfl).2.2
  rw [pay9_at]
  unfold score
  refine congrArg (Finset.univ.fold max ⊥) (funext fun n => ?_)
  rw [hb, sum_lanes rfl a _ _ (fun u => W u q) fun a' u => hw a a' u q]
  refine congrArg (· + B q) (Finset.sum_congr rfl fun u _ => ?_)
  rw [hl]
  dsimp only [chosen]
  rw [if_pos (ht ▸ hJ _)]

end Cert.Dcgru

end
-- ==== Proof.KernelWeights.lean ====
/-
  The packed weight matrices the kernel is given, entry by entry: an entry is the layer's weight where the row and the
  column belong to the same element of the pair, and zero where they do not.
-/
module

public import proofs.«01_k».proof.Proof.Model
public import proofs.«01_k».proof.Proof.KernelScore
public import Idealize.ShloMosaic.Lib.StableHlo.ReadAt

@[expose] public section

set_option maxRecDepth 65536
set_option maxHeartbeats 1000000

noncomputable section

namespace Cert.Dcgru

open Idealize.ShloMosaic Idealize.ShloMosaic.TcCoe Idealize.SL.Sem Cert.KernelIdeal Cert.KernelIdeal.Gen

/-- Whether two elements of a pair are the same, as the entry of the identity matrix. -/
def same (a b : ℕ) : EReal := if a = b then 1 else 0

/-- The identity matrix as the host program builds it. -/
theorem eye_at (a b : ℕ) (ha : a < 2) (hb : b < 2) :
    FloatOps.uitofp (F := Ideal) .f32 (IntOp.cmpi .eq (IntOp.addi (BitVec.ofNat 32 a) 0#32) (BitVec.ofNat 32 b)) = same a b := by
  interval_cases a <;> interval_cases b <;> simp [same, IntOp.cmpi, IntOp.addi, FloatOps.uitofp]

variable (m : (ℓ : Loc nD τ sig) → Buf (Elt Ideal) ℓ) (c : Dev nD)

/-- The kernel program's arguments. -/
def args : Args where
  x b t n i := (show S32x12x207x2.Idx → EReal from m (c, Proc.tc.devRef main_arg0)) (ix4 b t n i)
  len b := (show S32.Idx → BitVec 32 from m (c, Proc.tc.devRef main_arg1)) (ix1 b)
  S n k := (show S1x207x207.Idx → EReal from m (c, Proc.tc.devRef main_arg2)) (ix3 0 n k)
  Wg0 r o := (show S198x128.Idx → EReal from m (c, Proc.tc.devRef main_arg3)) (ix2 r o)
  bg0 o := (show S128.Idx → EReal from m (c, Proc.tc.devRef main_arg4)) (ix1 o)
  Wc0 r o := (show S198x64.Idx → EReal from m (c, Proc.tc.devRef main_arg5)) (ix2 r o)
  bc0 o := (show S64.Idx → EReal from m (c, Proc.tc.devRef main_arg6)) (ix1 o)
  Wg1 r o := (show S384x128.Idx → EReal from m (c, Proc.tc.devRef main_arg7)) (ix2 r o)
  bg1 o := (show S128.Idx → EReal from m (c, Proc.tc.devRef main_arg8)) (ix1 o)
  Wc1 r o := (show S384x64.Idx → EReal from m (c, Proc.tc.devRef main_arg9)) (ix2 r o)
  bc1 o := (show S64.Idx → EReal from m (c, Proc.tc.devRef main_arg10)) (ix1 o)
  Wfc u q := (show S64x5.Idx → EReal from m (c, Proc.tc.devRef main_arg11)) (ix2 u q)
  bfc q := (show S5.Idx → EReal from m (c, Proc.tc.devRef main_arg12)) (ix1 q)

/-- The first layer's first weight matrix: rows `0..127` the hidden lanes, `128..131` the input lanes; columns `0..255` the
    gates, `256..383` the candidate, which takes no hidden rows. -/
theorem w0_at (k : Fin 3) (j : Fin 132) (l : Fin 384) :
    (show S3x132x384.Idx → EReal from V m c main_v296) (ix3 k j l)
      = if h : j.val < 128 then
          if h' : l.val < 256 then (args m c).Wg0 ⟨(2 + j % 64) * 3 + k, by omega⟩ ⟨l / 128 * 64 + l % 64, by omega⟩ * same (j / 64) (l / 64 % 2)
          else 0
        else if h' : l.val < 256 then
          (args m c).Wg0 ⟨(j - 128) % 2 * 3 + k, by omega⟩ ⟨l / 128 * 64 + l % 64, by omega⟩ * same ((j - 128) / 2) (l / 64 % 2)
        else (args m c).Wc0 ⟨(j - 128) % 2 * 3 + k, by omega⟩ ⟨(l - 256) % 64, by omega⟩ * same ((j - 128) / 2) ((l - 256) / 64) := by
  unfold V V0
  fin_cases k <;> (repeat after_reads_at) <;> split_ifs <;> simp (disch := omega) only [eye_at] <;> rfl

/-- The first layer's second weight matrix. -/
theorem wr0_at (k : Fin 3) (j l : Fin 128) :
    (show S3x128x128.Idx → EReal from V m c main_v297) (ix3 k j l)
      = (args m c).Wc0 ⟨(2 + j % 64) * 3 + k, by omega⟩ ⟨l % 64, by omega⟩ * same (j / 64) (l / 64) := by
  unfold V V0
  fin_cases k <;> (repeat after_reads_at) <;> simp (disch := omega) only [eye_at] <;> rfl

/-- The second layer's first weight matrix: rows `0..127` the input lanes, `128..255` the hidden lanes. -/
theorem w1_at (k : Fin 3) (j : Fin 256) (l : Fin 384) :
    (show S3x256x384.Idx → EReal from V m c main_v304) (ix3 k j l)
      = if h : j.val < 128 then
          if h' : l.val < 256 then (args m c).Wg1 ⟨j % 64 * 3 + k, by omega⟩ ⟨l / 128 * 64 + l % 64, by omega⟩ * same (j / 64) (l / 64 % 2)
          else (args m c).Wc1 ⟨j % 64 * 3 + k, by omega⟩ ⟨(l - 256) % 64, by omega⟩ * same (j / 64) ((l - 256) / 64)
        else if h' : l.val < 256 then
          (args m c).Wg1 ⟨(64 + (j - 128) % 64) * 3 + k, by omega⟩ ⟨l / 128 * 64 + l % 64, by omega⟩ * same ((j - 128) / 64) (l / 64 % 2)
        else 0 := by
  unfold V V0
  fin_cases k <;> (repeat after_reads_at) <;> split_ifs <;> simp (disch := omega) only [eye_at] <;> rfl

/-- The second layer's second weight matrix. -/
theorem wr1_at (k : Fin 3) (j l : Fin 128) :
    (show S3x128x128.Idx → EReal from V m c main_v305) (ix3 k j l)
      = (args m c).Wc1 ⟨(64 + j % 64) * 3 + k, by omega⟩ ⟨l % 64, by omega⟩ * same (j / 64) (l / 64) := by
  unfold V V0
  fin_cases k <;> (repeat after_reads_at) <;> simp (disch := omega) only [eye_at] <;> rfl

end Cert.Dcgru

end
-- ==== Proof.KernelInputs.lean ====
/-
  The kernel's other inputs, entry by entry: the padded inputs and support matrix, the biases, the classifier and the mask.
-/
module

public import proofs.«01_k».proof.Proof.KernelWeights

@[expose] public section

set_option maxRecDepth 65536
set_option maxHeartbeats 1000000

noncomputable section

namespace Cert.Dcgru

open Idealize.ShloMosaic Idealize.ShloMosaic.TcCoe Idealize.SL.Sem Cert.KernelIdeal Cert.KernelIdeal.Gen

variable (m : (ℓ : Loc nD τ sig) → Buf (Elt Ideal) ℓ) (c : Dev nD)

/-- The packed inputs: row `2·a + i` holds feature `i` of element `a`, column `208·p + n` node `n` of pair `p`. -/
theorem x_at (t : Fin 12) (a i : Fin 2) (p : Fin 16) (n : Fin 207) :
    (show S12x4x3328.Idx → EReal from V m c main_v3) (ix3 t (lane rfl a i) (xcol p (up n))) = (args m c).x (batch p a) t n i := by
  unfold V V0
  after_reads_at
  have h1 : (a.val * 2 + i.val) / 2 = a := by omega
  have h2 : (a.val * 2 + i.val) % 2 = i := by omega
  have h3 : (p.val * 208 + n.val) / 208 = p := by omega
  have h4 : (p.val * 208 + n.val) % 208 = n := by omega
  rw [dif_pos ⟨by omega, by omega, by omega, by omega⟩]
  simp only [h1, h2, h3, h4]
  rfl

/-- The padded support matrix. -/
theorem support_at (n k : Fin 208) :
    (show S208x208.Idx → EReal from V m c main_v295) (ix2 n k)
      = if h : n.val < 207 ∧ k.val < 207 then (args m c).S ⟨n, h.1⟩ ⟨k, h.2⟩ else 0 := by
  unfold V V0
  after_reads_at
  have z : FloatOps.sitofp (F := Ideal) .f32 0#32 = (0 : EReal) := by simp [FloatOps.sitofp]
  rw [z]
  rfl

theorem bg0_at (l : Fin 256) :
    (show S1x256.Idx → EReal from V m c main_v300) (ix2 0 l) = (args m c).bg0 ⟨l / 128 * 64 + l % 64, by omega⟩ := by
  unfold V V0
  after_reads_at
  rfl

theorem bg1_at (l : Fin 256) :
    (show S1x256.Idx → EReal from V m c main_v308) (ix2 0 l) = (args m c).bg1 ⟨l / 128 * 64 + l % 64, by omega⟩ := by
  unfold V V0
  after_reads_at
  rfl

theorem bc0_at (l : Fin 128) :
    (show S1x128.Idx → EReal from V m c main_v303) (ix2 0 l) = (args m c).bc0 ⟨l % 64, by omega⟩ := by
  unfold V V0
  after_reads_at
  rfl

theorem bc1_at (l : Fin 128) :
    (show S1x128.Idx → EReal from V m c main_v311) (ix2 0 l) = (args m c).bc1 ⟨l % 64, by omega⟩ := by
  unfold V V0
  after_reads_at
  rfl

/-- The classifier's weights, one block per element of the pair. -/
theorem wfc_at (l : Fin 128) (o : Fin 10) :
    (show S128x10.Idx → EReal from V m c main_v312) (ix2 l o)
      = (args m c).Wfc ⟨l % 64, by omega⟩ ⟨o % 5, by omega⟩ * same (l / 64) (o / 5) := by
  unfold V V0
  after_reads_at
  simp (disch := omega) only [eye_at]
  rfl

theorem bfc_at (o : Fin 10) :
    (show S1x10.Idx → EReal from V m c main_v280) (ix2 0 o) = (args m c).bfc ⟨o % 5, by omega⟩ := by
  unfold V V0
  after_reads_at
  rfl

/-- The mask: 1 at the batch element's last relevant step. -/
theorem mask_at (t : Fin 12) (p : Fin 16) (l : Fin 128) :
    (show S12x16x128.Idx → EReal from V m c main_v294) (ix3 t p l)
      = if (args m c).last ⟨p * 2 + l / 64, by omega⟩ = t then 1 else 0 := by
  have e : ∀ w : BitVec 32, FloatOps.uitofp (F := Ideal) .f32 (IntOp.cmpi .eq (BitVec.ofNat 32 t) w) = if w.toNat = t.val then 1 else 0 := by
    intro w
    have hw : (BitVec.ofNat 32 t = w) ↔ w.toNat = t.val := by
      constructor
      · rintro rfl
        simp; omega
      · intro h
        rw [← h]; simp
    by_cases h : w.toNat = t.val
    · rw [if_pos h, hw.mpr h]
      simp [IntOp.cmpi, FloatOps.uitofp]
    · rw [if_neg h]
      simp [IntOp.cmpi, FloatOps.uitofp, mt hw.mp h]
  unfold V V0
  after_reads_at
  exact e _

end Cert.Dcgru

end
-- ==== Proof.KernelModel.lean ====
/-
  The kernel's windows hold the packed arguments: its operands are the model's packed parameters, its inputs and mask the
  model's, so the block it stores holds the model's class scores.
-/
module

public import proofs.«01_k».proof.Proof.KernelInputs
public import Idealize.ShloMosaic.Lib.Pipeline.ValueKit.Tiles

@[expose] public section

noncomputable section

namespace Cert.Dcgru

open Idealize.ShloMosaic Idealize.ShloMosaic.TcCoe Idealize.SL.Sem Cert.KernelIdeal Cert.KernelIdeal.Gen

theorem slab_at {A B C : Nat} {e : EltTy} (X : Vec Ideal ⟨3, ![A, B, C]⟩ e) (k : Nat)
    (h : ∀ a, (![k, 0, 0] : Fin 3 → Nat) a + (![1, B, C] : Fin 3 → Nat) a ≤ (![A, B, C] : Fin 3 → Nat) a) (i : Fin 1) (r : Fin B) (l : Fin C)
    (hk : k < A) : slab X k h (ix3 i r l) = X (ix3 ⟨k, hk⟩ r l) := by
  refine congrArg X (funext fun a => Fin.ext ((Rect.idx_unit_val _ _ _ _ a).trans ?_))
  fin_cases a
  · show k + i.val = k
    omega
  · exact Nat.zero_add _
  · exact Nat.zero_add _

section

variable {x1 : Vec Ideal S208x208 .bf16} {x2 : Vec Ideal S3x132x384 .bf16} {x3 : Vec Ideal S3x128x128 .bf16}
    {x4 : Vec Ideal S1x256 .f32} {x5 : Vec Ideal S1x128 .f32} {x6 : Vec Ideal S3x256x384 .bf16} {x7 : Vec Ideal S3x128x128 .bf16}
    {x8 : Vec Ideal S1x256 .f32} {x9 : Vec Ideal S1x128 .f32}

theorem operands_S (p : Fin 16) (n k : Fin 208) : (operands x1 x2 x3 x4 x5 x6 x7 x8 x9).S (ix3 p n k) = x1 (ix2 n k) := by
  show k0_pay23 x1 (ix3 p n k) = _
  pointwise [k0_pay23]

theorem operands_w0 (k : Fin 3) (r : Fin 132) (l : Fin 384) :
    (operands x1 x2 x3 x4 x5 x6 x7 x8 x9).w0 k (ix2 r l) = x2 (ix3 k r l) := by
  fin_cases k
  · show k0_pay24 (slab x2 0 _) (ix2 r l) = _
    pointwise [k0_pay24]
    exact slab_at ..
  · show k0_pay25 (slab x2 1 _) (ix2 r l) = _
    pointwise [k0_pay25]
    exact slab_at ..
  · show k0_pay26 (slab x2 2 _) (ix2 r l) = _
    pointwise [k0_pay26]
    exact slab_at ..

theorem operands_wr0 (k : Fin 3) (r l : Fin 128) : (operands x1 x2 x3 x4 x5 x6 x7 x8 x9).wr0 k (ix2 r l) = x3 (ix3 k r l) := by
  fin_cases k
  · show k0_pay27 (slab x3 0 _) (ix2 r l) = _
    pointwise [k0_pay27]
    exact slab_at ..
  · show k0_pay28 (slab x3 1 _) (ix2 r l) = _
    pointwise [k0_pay28]
    exact slab_at ..
  · show k0_pay29 (slab x3 2 _) (ix2 r l) = _
    pointwise [k0_pay29]
    exact slab_at ..

theorem operands_w1 (k : Fin 3) (r : Fin 256) (l : Fin 384) :
    (operands x1 x2 x3 x4 x5 x6 x7 x8 x9).w1 k (ix2 r l) = x6 (ix3 k r l) := by
  fin_cases k
  · show k0_pay30 (slab x6 0 _) (ix2 r l) = _
    pointwise [k0_pay30]
    exact slab_at ..
  · show k0_pay31 (slab x6 1 _) (ix2 r l) = _
    pointwise [k0_pay31]
    exact slab_at ..
  · show k0_pay32 (slab x6 2 _) (ix2 r l) = _
    pointwise [k0_pay32]
    exact slab_at ..

theorem operands_wr1 (k : Fin 3) (r l : Fin 128) :
    w1r (operands x1 x2 x3 x4 x5 x6 x7 x8 x9).wr1 ((operands x1 x2 x3 x4 x5 x6 x7 x8 x9).wr1' 0)
      ((operands x1 x2 x3 x4 x5 x6 x7 x8 x9).wr1' 1) k r l = x7 (ix3 k r l) := by
  fin_cases k
  · show k0_pay33 (slab x7 0 _) (ix2 r l) = _
    pointwise [k0_pay33]
    exact slab_at ..
  · exact slab_at x7 1 _ 0 r l (by decide)
  · exact slab_at x7 2 _ 0 r l (by decide)

theorem operands_bg0 (l : Fin 256) : (operands x1 x2 x3 x4 x5 x6 x7 x8 x9).bg0 (ix2 0 l) = x4 (ix2 0 l) := by
  show k0_pay1 x4 (ix2 0 l) = _
  pointwise [k0_pay1]

theorem operands_bc0 (l : Fin 128) : (operands x1 x2 x3 x4 x5 x6 x7 x8 x9).bc0 (ix2 0 l) = x5 (ix2 0 l) := by
  show k0_pay2 x5 (ix2 0 l) = _
  pointwise [k0_pay2]

theorem operands_bg1 (l : Fin 256) : (operands x1 x2 x3 x4 x5 x6 x7 x8 x9).bg1 (ix2 0 l) = x8 (ix2 0 l) := by
  show k0_pay3 x8 (ix2 0 l) = _
  pointwise [k0_pay3]

end

variable (m : (ℓ : Loc nD τ sig) → Buf (Elt Ideal) ℓ) (c : Dev nD) (t : Fin cfg0.N)

/-- Every input window's block is its whole array. -/
theorem blocks :
    (iblk m c 0 t = V m c main_v3 ∧ iblk m c 1 t = V m c main_v295 ∧ iblk m c 2 t = V m c main_v296
      ∧ iblk m c 3 t = V m c main_v297 ∧ iblk m c 4 t = V m c main_v300 ∧ iblk m c 5 t = V m c main_v303
      ∧ iblk m c 6 t = V m c main_v304)
    ∧ iblk m c 7 t = V m c main_v305 ∧ iblk m c 8 t = V m c main_v308 ∧ iblk m c 9 t = V m c main_v311
      ∧ iblk m c 10 t = V m c main_v312 ∧ iblk m c 11 t = V m c main_v280 ∧ iblk m c 12 t = V m c main_v294 := by
  refine ⟨⟨?_, ?_, ?_, ?_, ?_, ?_, ?_⟩, ?_, ?_, ?_, ?_, ?_, ?_⟩ <;>
    exact Memref.read_access_unit_zero (Elt Ideal) _ (funext fun a => by fin_cases a <;> exact Nat.zero_mul _) _ _

/-- The operands the kernel binds. -/
abbrev ops : Operands := operands (iblk m c 1 t) (iblk m c 2 t) (iblk m c 3 t) (iblk m c 4 t) (iblk m c 5 t) (iblk m c 6 t)
  (iblk m c 7 t) (iblk m c 8 t) (iblk m c 9 t)

theorem mul_same (x : EReal) {p q : ℕ} (a a' : Fin 2) (hp : p = a') (hq : q = a) : x * same p q = if a' = a then x else 0 := by
  subst hp hq
  unfold same
  by_cases h : a' = a
  · subst h; simp
  · rw [if_neg h, if_neg (fun e => h (Fin.ext e)), mul_zero]

theorem vec3 {α : Type} (f : Fin 3 → α) (k : Fin 3) : ![f 0, f 1, f 2] k = f k := by fin_cases k <;> rfl

theorem ops_w0 (k : Fin 3) (r : Fin 132) (l : Fin 384) :
    (![(ops m c t).w0 0, (ops m c t).w0 1, (ops m c t).w0 2] k : FVec Ideal S132x384 .bf16) (ix2 r l)
      = (show S3x132x384.Idx → EReal from V m c main_v296) (ix3 k r l) := by
  rw [vec3]
  exact (operands_w0 ..).trans (congrFun (blocks m c t).1.2.2.1 _)

theorem ops_wr0 (k : Fin 3) (r l : Fin 128) :
    (![(ops m c t).wr0 0, (ops m c t).wr0 1, (ops m c t).wr0 2] k : FVec Ideal S128x128 .bf16) (ix2 r l)
      = (show S3x128x128.Idx → EReal from V m c main_v297) (ix3 k r l) := by
  rw [vec3]
  exact (operands_wr0 ..).trans (congrFun (blocks m c t).1.2.2.2.1 _)

theorem ops_w1 (k : Fin 3) (r : Fin 256) (l : Fin 384) :
    (![(ops m c t).w1 0, (ops m c t).w1 1, (ops m c t).w1 2] k : FVec Ideal S256x384 .bf16) (ix2 r l)
      = (show S3x256x384.Idx → EReal from V m c main_v304) (ix3 k r l) := by
  rw [vec3]
  exact (operands_w1 ..).trans (congrFun (blocks m c t).1.2.2.2.2.2.2 _)

theorem ops_wr1 (k : Fin 3) (r l : Fin 128) :
    w1r (ops m c t).wr1 ((ops m c t).wr1' 0) ((ops m c t).wr1' 1) k r l
      = (show S3x128x128.Idx → EReal from V m c main_v305) (ix3 k r l) :=
  (operands_wr1 ..).trans (congrFun (blocks m c t).2.1 _)

theorem ops_bg0 (l : Fin 256) : (ops m c t).bg0 (ix2 0 l) = (args m c).bg0 ⟨l / 128 * 64 + l % 64, by omega⟩ :=
  (operands_bg0 ..).trans ((congrFun (blocks m c t).1.2.2.2.2.1 (ix2 0 l)).trans (bg0_at ..))

theorem ops_bc0 (l : Fin 128) : (ops m c t).bc0 (ix2 0 l) = (args m c).bc0 ⟨l % 64, by omega⟩ :=
  (operands_bc0 ..).trans ((congrFun (blocks m c t).1.2.2.2.2.2.1 (ix2 0 l)).trans (bc0_at ..))

theorem ops_bg1 (l : Fin 256) : (ops m c t).bg1 (ix2 0 l) = (args m c).bg1 ⟨l / 128 * 64 + l % 64, by omega⟩ :=
  (operands_bg1 ..).trans ((congrFun (blocks m c t).2.2.1 (ix2 0 l)).trans (bg1_at ..))

theorem ops_bc1 (l : Fin 128) : (ops m c t).bc1 (ix2 0 l) = (args m c).bc1 ⟨l % 64, by omega⟩ :=
  (Eq.refl _).trans ((congrFun (blocks m c t).2.2.2.1 (ix2 0 l)).trans (bc1_at ..))

/-- The first layer's operands are its packed parameters. -/
theorem ops_layer0 : IsLayer (args m c).L0 (N := 4) rfl (w0x ((ops m c t).w0 0) ((ops m c t).w0 1) ((ops m c t).w0 2))
    (w0h ((ops m c t).w0 0) ((ops m c t).w0 1) ((ops m c t).w0 2)) (w0r ((ops m c t).wr0 0) ((ops m c t).wr0 1) ((ops m c t).wr0 2))
    (fun l => (ops m c t).bg0 (ix2 0 l)) (fun l => (ops m c t).bc0 (ix2 0 l)) := by
  constructor
  · intro g a v k a' i
    refine ((ops_w0 ..).trans (w0_at ..)).trans ?_
    dsimp only [lane, gateCol]
    rw [dif_neg (by omega), dif_pos (by omega), mul_same _ a a' (by omega) (by omega)]
    refine if_congr Iff.rfl (congrArg₂ _ (Fin.ext ?_) (Fin.ext ?_)) rfl <;> dsimp only <;> omega
  · intro g a v k a' u
    refine ((ops_w0 ..).trans (w0_at ..)).trans ?_
    dsimp only [lane, gateCol]
    rw [dif_pos (by omega), dif_pos (by omega), mul_same _ a a' (by omega) (by omega)]
    refine if_congr Iff.rfl (congrArg₂ _ (Fin.ext ?_) (Fin.ext ?_)) rfl <;> dsimp only <;> omega
  · intro a v k a' i
    refine ((ops_w0 ..).trans (w0_at ..)).trans ?_
    dsimp only [lane, candCol]
    rw [dif_neg (by omega), dif_neg (by omega), mul_same _ a a' (by omega) (by omega)]
    refine if_congr Iff.rfl (congrArg₂ _ (Fin.ext ?_) (Fin.ext ?_)) rfl <;> dsimp only <;> omega
  · intro a v k l
    refine ((ops_w0 ..).trans (w0_at ..)).trans ?_
    dsimp only [candCol]
    rw [dif_pos (by omega), dif_neg (by omega)]
  · intro a v k a' u
    refine ((ops_wr0 ..).trans (wr0_at ..)).trans ?_
    dsimp only [lane]
    rw [mul_same _ a a' (by omega) (by omega)]
    refine if_congr Iff.rfl (congrArg₂ _ (Fin.ext ?_) (Fin.ext ?_)) rfl <;> dsimp only <;> omega
  · intro g a v
    refine (ops_bg0 ..).trans (congrArg _ (Fin.ext ?_))
    dsimp only [gateCol]
    omega
  · intro a v
    refine (ops_bc0 ..).trans (congrArg _ (Fin.ext ?_))
    dsimp only [lane]
    omega

/-- The second layer's operands are its packed parameters. -/
theorem ops_layer1 : IsLayer (args m c).L1 (N := 128) rfl (w1x ((ops m c t).w1 0) ((ops m c t).w1 1) ((ops m c t).w1 2))
    (w1h ((ops m c t).w1 0) ((ops m c t).w1 1) ((ops m c t).w1 2)) (w1r (ops m c t).wr1 ((ops m c t).wr1' 0) ((ops m c t).wr1' 1))
    (fun l => (ops m c t).bg1 (ix2 0 l)) (fun l => (ops m c t).bc1 (ix2 0 l)) := by
  constructor
  · intro g a v k a' i
    refine ((ops_w1 ..).trans (w1_at ..)).trans ?_
    dsimp only [lane, gateCol]
    rw [dif_pos (by omega), dif_pos (by omega), mul_same _ a a' (by omega) (by omega)]
    refine if_congr Iff.rfl (congrArg₂ _ (Fin.ext ?_) (Fin.ext ?_)) rfl <;> dsimp only <;> omega
  · intro g a v k a' u
    refine ((ops_w1 ..).trans (w1_at ..)).trans ?_
    dsimp only [lane, gateCol]
    rw [dif_neg (by omega), dif_pos (by omega), mul_same _ a a' (by omega) (by omega)]
    refine if_congr Iff.rfl (congrArg₂ _ (Fin.ext ?_) (Fin.ext ?_)) rfl <;> dsimp only <;> omega
  · intro a v k a' i
    refine ((ops_w1 ..).trans (w1_at ..)).trans ?_
    dsimp only [lane, candCol]
    rw [dif_pos (by omega), dif_neg (by omega), mul_same _ a a' (by omega) (by omega)]
    refine if_congr Iff.rfl (congrArg₂ _ (Fin.ext ?_) (Fin.ext ?_)) rfl <;> dsimp only <;> omega
  · intro a v k l
    refine ((ops_w1 ..).trans (w1_at ..)).trans ?_
    dsimp only [candCol]
    rw [dif_neg (by omega), dif_neg (by omega)]
  · intro a v k a' u
    refine ((ops_wr1 ..).trans (wr1_at ..)).trans ?_
    dsimp only [lane]
    rw [mul_same _ a a' (by omega) (by omega)]
    refine if_congr Iff.rfl (congrArg₂ _ (Fin.ext ?_) (Fin.ext ?_)) rfl <;> dsimp only <;> omega
  · intro g a v
    refine (ops_bg1 ..).trans (congrArg _ (Fin.ext ?_))
    dsimp only [gateCol]
    omega
  · intro a v
    refine (ops_bc1 ..).trans (congrArg _ (Fin.ext ?_))
    dsimp only [lane]
    omega

theorem ops_sup (p : Fin 16) : IsPadded (sup (ops m c t).S p) (args m c).S := by
  have e : ∀ n k, sup (ops m c t).S p n k = _ := fun n k =>
    (operands_S ..).trans ((congrFun (blocks m c t).1.2.1 _).trans (support_at m c n k))
  refine ⟨fun n k => (e _ _).trans (dif_pos ⟨n.isLt, k.isLt⟩), fun n => (e _ _).trans (dif_neg ?_)⟩
  rintro ⟨-, h⟩
  exact absurd h (by decide)

theorem ops_models : (ops m c t).Models (args m c).S (args m c).L0 (args m c).L1 :=
  ⟨ops_sup m c t, ops_layer0 m c t, ops_layer1 m c t⟩

theorem trip_lt (k : Fin k0_t1_loop.trips) : k.val < 12 := lt_of_lt_of_eq k.isLt (by decide +kernel)

theorem inputAt_at (X : Vec Ideal S12x4x3328 .f32) (k : Fin k0_t1_loop.trips) (r : Fin 4) (l : Fin 3328) :
    inputAt X k (ix3 0 r l) = X (ix3 ⟨k, trip_lt k⟩ r l) := by
  refine congrArg X (funext fun a => Fin.ext ((Rect.idx_unit_val _ _ _ _ a).trans ((congrArg (· + _) (congrFun (k0_off1_eq k) a)).trans ?_)))
  fin_cases a
  · exact Nat.add_zero _
  · exact Nat.zero_add _
  · exact Nat.zero_add _

theorem maskAt_at (X : Vec Ideal S12x16x128 .f32) (k : Fin k0_t1_loop.trips) (r : Fin 16) (l : Fin 128) :
    maskAt X k (ix3 0 r l) = X (ix3 ⟨k, trip_lt k⟩ r l) := by
  refine congrArg X (funext fun a => Fin.ext ((Rect.idx_unit_val _ _ _ _ a).trans ((congrArg (· + _) (congrFun (k0_off2_eq k) a)).trans ?_)))
  fin_cases a
  · exact Nat.add_zero _
  · exact Nat.zero_add _
  · exact Nat.zero_add _

/-- The loaded inputs are the packed inputs of the step. -/
theorem packs_input (k : Fin k0_t1_loop.trips) : PacksInput (inputAt (iblk m c 0 t) k) fun b => (args m c).inputs b k := fun p a i n => by
  refine (inputAt_at _ k _ _).trans ((congrFun (blocks m c t).1.1 _).trans ((x_at m c ⟨k, trip_lt k⟩ a i p n).trans ?_))
  dsimp only [Args.inputs]
  rw [dif_pos (trip_lt k)]

/-- The loaded mask selects each batch element's last relevant step. -/
theorem selects (k : Fin k0_t1_loop.trips) : Selects (maskAt (iblk m c 12 t) k) (args m c).last k := fun p a u => by
  refine (maskAt_at _ k _ _).trans ((congrFun (blocks m c t).2.2.2.2.2.2 _).trans ((mask_at m c ⟨k, trip_lt k⟩ p _).trans ?_))
  have e : (⟨p * 2 + (lane rfl a u : Fin 128) / 64, by omega⟩ : Fin 32) = batch p a := Fin.ext (by dsimp only [lane]; omega)
  rw [e]

/-- The block the kernel stores holds the model's class scores. -/
theorem block_result (p : Fin 16) (a : Fin 2) (q : Fin 5) :
    (show S16x10.Idx → EReal from outsAt0 m c t) (ix2 p ⟨a * 5 + q, by omega⟩) = (args m c).result (batch p a) q := by
  rw [outsAt0_eq]
  refine block_at (ops_models m c t) (packs_input m c t) (selects m c t) (W := (args m c).Wfc) (B := (args m c).bfc) ?_ ?_
    (args m c).last_lt p a q
  · intro a a' u q
    refine (congrFun (blocks m c t).2.2.2.2.1 _).trans ((wfc_at m c _ _).trans ?_)
    dsimp only [lane]
    rw [mul_same _ a a' (by omega) (by omega)]
    refine if_congr Iff.rfl (congrArg₂ _ (Fin.ext ?_) (Fin.ext ?_)) rfl <;> dsimp only <;> omega
  · intro a q
    refine (congrFun (blocks m c t).2.2.2.2.2.1 _).trans ((bfc_at m c _).trans (congrArg _ (Fin.ext ?_)))
    dsimp only
    omega

end Cert.Dcgru

end
-- ==== Proof.KernelResult.lean ====
/-
  The kernel program's run: its result array holds the model's class scores, and its arguments end unchanged. The pair
  of batch elements in a row of the kernel's block is unpacked by the reshape after the call.
-/
module

public import proofs.«01_k».proof.Proof.KernelModel

@[expose] public section

noncomputable section

namespace Cert.Dcgru

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The model's class scores, as an array. -/
def Args.scores (A : Args) : S32x5.Idx → EReal := fun i => A.result (i 0) (i 1)

/-- The block written back is the stored one, whole. -/
theorem flushed (c : Dev nD) (t : Fin cfg0.N) :
    (dats m 0 c).flushed 13 t = ((cfg0.win 13).blk t).view.read (Elt Ideal) (outsAt0 m c t0_0) := by
  have hN : cfg0.N = 1 := N_0
  obtain rfl : t = t0_0 := Fin.ext (by have := t.isLt; have : t0_0.val = 0 := rfl; omega)
  show (cfg0.win 13).cut (grid0.coords t0_0) ((dats m 0 c).after 13 t0_0) = _
  rw [after0_13]
  exact (Memref.read_access_unit_zero (Elt Ideal) main_v313 (funext fun a => by fin_cases a <;> exact Nat.zero_mul _) _ (outsAt0 m c t0_0)).symm

/-- So the kernel's output array is the stored block. -/
theorem final (c : Dev nD) : (dats m 0 c).arrAt 13 cfg0.N = outsAt0 m c t0_0 :=
  (dats m 0 c).arrAt_eq_of_cover 13 (outsAt0 m c t0_0) (fun t _ => flushed m c t) fun i => ⟨t0_0, flush0_13 t0_0, by
    show i ∈ ((View.whole main_v313).slice (win0_13.rect t0_0)).set
    rw [View.set_slice_whole, Rect.mem_set_unit]
    intro a
    fin_cases a
    · exact ⟨Nat.zero_le _, (i 0).isLt⟩
    · exact ⟨Nat.zero_le _, (i 1).isLt⟩⟩

/-- The reshape after the call unpacks the pairs. -/
theorem tail_eq (c : Dev nD) : Pipeline.afterTail₀ cfgs (dats m) 0 (V0 m) [hostOps1] c main_v314 = (args m c).scores := by
  have e : Pipeline.withArrays cfg0.spec c (V0 m c) (fun w => (dats m 0 c).arrAt w cfg0.N) (Proc.devRef .tc main_v313)
      = outsAt0 m c t0_0 := (Pipeline.withArrays_arr cfg0.spec launch0.win.arr_inj c _ _ 13).trans (final m c)
  unfold Pipeline.afterTail₀
  show StableHlo.after hostOps1 _ _ = _
  generalize Pipeline.withArrays _ c _ _ = W at e ⊢
  funext i
  idx_vars i
  after_reads_at
  refine (congrFun e _).trans ((congrArg (show S16x10.Idx → EReal from outsAt0 m c t0_0) ?_).trans
    ((block_result m c t0_0 ⟨i0 / 2, by omega⟩ ⟨i0 % 2, by omega⟩ i1).trans ?_))
  · rfl
  · exact congrArg (fun b => (args m c).result b i1) (Fin.ext (show i0.val / 2 * 2 + i0.val % 2 = i0 by omega))

/-- The kernel program's run. -/
theorem kernelRun : θ_run defs (onTc (τ := τ) (main (F := Ideal))) ⟨m, fun _ => 0, ρ⟩ (fun r => ∀ c : Dev nD,
    r.2.mem ((c.tc : Thread nD τ).loc main_v314) = (args m c).scores
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h.1 c).2 main_v314 (by decide)).trans (tail_eq m c), h.2 c⟩)
    (θ_run_and (run_main m ρ) (unchanged m ρ))

end Cert.Dcgru

end
-- ==== Proof.RefConv.lean ====
/-
  The reference's graph convolution, one output element at a time. It stacks the three diffusion orders of every feature
  in one row and multiplies the row by the weight matrix; the row's entry at column `3·f + k` is diffusion order `k` of
  feature `f`, so the product is the model's pre-activation.
-/
module

public import proofs.«01_k».proof.Proof.Model
public import proofs.«01_k».proof.Proof.Gen.ReferenceIdeal

@[expose] public section

noncomputable section

namespace Cert.Dcgru

open Idealize.ShloMosaic

/-- A stacked row's entry: diffusion order `k` of a signal, chosen by the place in the stack. -/
abbrev entry (S : Support) (g : Signal) (k : ℕ) (n : Fin 207) : EReal :=
  if _ : k < 1 then g n
  else if _ : k - 1 < 1 then ∑ m, S n m * g m
  else two * (∑ m, S n m * ∑ m', S m m' * g m') - g n

theorem entry_eq (S : Support) (g : Signal) (k : Fin 3) (n : Fin 207) : entry S g k n = order S g k n := by
  fin_cases k <;> rfl

/-- A stacked row times a weight column, with the bias: the pre-activation. -/
theorem pre_of_entries {I : ℕ} (S : Support) (g : Fin (I + 64) → Signal) (W : Fin ((I + 64) * 3) → EReal) (b : EReal) (n : Fin 207) :
    (∑ x : Fin ((I + 64) * 3), entry S (g ⟨x / 3, by omega⟩) (x % 3) n * W x) + b
      = pre S (fun i => g (Fin.castAdd 64 i)) (fun u => g (Fin.natAdd I u)) (fun i k => W ⟨i * 3 + k, by omega⟩)
          (fun u k => W ⟨(I + u) * 3 + k, by omega⟩) b n := by
  have e : (∑ x : Fin ((I + 64) * 3), entry S (g ⟨x / 3, by omega⟩) (x % 3) n * W x)
      = ∑ f : Fin (I + 64), tap S (g f) (fun k => W ⟨f * 3 + k, by omega⟩) n := by
    rw [Fin.sum_univ_tiles (I + 64) 3 rfl]
    refine Finset.sum_congr rfl fun f _ => Finset.sum_congr rfl fun k _ => ?_
    have e1 : (⟨(f.val * 3 + k) / 3, by omega⟩ : Fin (I + 64)) = f := Fin.ext (by dsimp only; omega)
    have e2 : (f.val * 3 + k.val) % 3 = k := by omega
    dsimp only
    rw [e1, e2, entry_eq]
  rw [e, Fin.sum_univ_add]
  rfl

namespace Ref

open Idealize.ShloMosaic.TcCoe Cert.ReferenceIdeal

/-- The support matrix the scan carries. -/
abbrev support (V : Valuation τ sig (Elt Ideal)) : Support := fun n m =>
  (show S1x207x207.Idx → EReal from V (Proc.devRef .tc main_v4_1)) (ix3 0 n m)

end Ref

end Cert.Dcgru

end
-- ==== Proof.RefCell.lean ====
/-
  A layer of the reference, from the stacked features it multiplies: if the stack's columns are the input and hidden
  signals, the gate columns are the model's gates; if the second stack's hidden columns are also multiplied by the reset
  gate, the candidate columns are the model's candidate.
-/
module

public import proofs.«01_k».proof.Proof.RefConv

@[expose] public section

noncomputable section

namespace Cert.Dcgru.Ref

open Idealize.ShloMosaic

variable {I : ℕ} (S : Support) (x : Fin I → Signal) (h : Fin 64 → Signal)
  (Wg : Fin ((I + 64) * 3) → Fin 128 → EReal) (bg : Fin 128 → EReal) (Wc : Fin ((I + 64) * 3) → Fin 64 → EReal) (bc : Fin 64 → EReal)
  (b : Fin 32) (A : Fin 207 → Fin ((I + 64) * 32) → EReal)

/-- The pre-activation of one weight column, from the stack of one batch element's signals. -/
theorem pre_of_stack (W : Fin ((I + 64) * 3) → EReal) (β : EReal) (hx : ∀ i m, A m ⟨(Fin.castAdd 64 i).val * 32 + b, by have := (Fin.castAdd 64 i).isLt; omega⟩ = x i m)
    (hh : ∀ u m, A m ⟨(Fin.natAdd I u).val * 32 + b, by have := (Fin.natAdd I u).isLt; omega⟩ = h u m) (n : Fin 207) :
    (∑ r : Fin ((I + 64) * 3), entry S (fun m => A m ⟨r / 3 * 32 + b, by omega⟩) (r % 3) n * W r) + β
      = pre S x h (fun i k => W ⟨i * 3 + k, by omega⟩) (fun u k => W ⟨(I + u) * 3 + k, by omega⟩) β n := by
  refine (pre_of_entries S (fun f m => A m ⟨f * 32 + b, by omega⟩) W β n).trans ?_
  have ex : (fun i m => A m ⟨(Fin.castAdd 64 i).val * 32 + b, by have := (Fin.castAdd 64 i).isLt; omega⟩) = x := funext fun i => funext fun m => hx i m
  have eh : (fun u m => A m ⟨(Fin.natAdd I u).val * 32 + b, by have := (Fin.natAdd I u).isLt; omega⟩) = h := funext fun u => funext fun m => hh u m
  rw [ex, eh]

/-- The gates. -/
theorem gate_of_stack (hx : ∀ i m, A m ⟨(Fin.castAdd 64 i).val * 32 + b, by have := (Fin.castAdd 64 i).isLt; omega⟩ = x i m)
    (hh : ∀ u m, A m ⟨(Fin.natAdd I u).val * 32 + b, by have := (Fin.natAdd I u).isLt; omega⟩ = h u m) (g : Fin 2) (v : Fin 64) (n : Fin 207) :
    sigmoid ((∑ r : Fin ((I + 64) * 3), entry S (fun m => A m ⟨r / 3 * 32 + b, by omega⟩) (r % 3) n * Wg r ⟨g * 64 + v, by omega⟩)
        + bg ⟨g * 64 + v, by omega⟩)
      = gate (layer I Wg bg Wc bc) S x h g v n :=
  congrArg sigmoid (pre_of_stack S x h b A (fun r => Wg r ⟨g * 64 + v, by omega⟩) _ hx hh n)

/-- The new hidden state. -/
theorem cell_of_stack (hx : ∀ i m, A m ⟨(Fin.castAdd 64 i).val * 32 + b, by have := (Fin.castAdd 64 i).isLt; omega⟩ = x i m)
    (hh : ∀ u m, A m ⟨(Fin.natAdd I u).val * 32 + b, by have := (Fin.natAdd I u).isLt; omega⟩ = gate (layer I Wg bg Wc bc) S x h 0 u m * h u m)
    (u : Fin 64) (n : Fin 207) :
    gate (layer I Wg bg Wc bc) S x h 1 u n * h u n + (1 - gate (layer I Wg bg Wc bc) S x h 1 u n)
        * Ideal.tanh ((∑ r : Fin ((I + 64) * 3), entry S (fun m => A m ⟨r / 3 * 32 + b, by omega⟩) (r % 3) n * Wc r u) + bc u)
      = cell (layer I Wg bg Wc bc) S x h u n :=
  congrArg (fun z => gate (layer I Wg bg Wc bc) S x h 1 u n * h u n + (1 - gate (layer I Wg bg Wc bc) S x h 1 u n) * Ideal.tanh z)
    (pre_of_stack S x (fun u m => gate (layer I Wg bg Wc bc) S x h 0 u m * h u m) b A (fun r => Wc r u) _ hx hh n)

end Cert.Dcgru.Ref

end
-- ==== Proof.RefRead0.lean ====
/-
  One trip of the reference's scan, the first layer, read at an index: the stacked features, the gates and the new hidden
  state.
-/
module

public import proofs.«01_k».proof.Proof.RefConv
public import proofs.«01_k».proof.Proof.Gen.ReferenceIdeal.Run

@[expose] public section

set_option maxRecDepth 65536
set_option maxHeartbeats 1000000

noncomputable section

namespace Cert.Dcgru.Ref

open Idealize.ShloMosaic Idealize.ShloMosaic.TcCoe Cert.ReferenceIdeal Cert.ReferenceIdeal.Gen Cert.ReferenceIdeal.Value

variable (V : Valuation τ sig (Elt Ideal))

/-- The gates' features: column `32·f + b` is feature `f` of batch element `b`, the inputs before the hidden state. -/
theorem v36_at (n : Fin 207) (l : Fin 2112) :
    (show S207x2112.Idx → EReal from res_main_while0b_v36 V) (ix2 n l)
      = if _ : l.val / 32 < 2 then (show S32x414.Idx → EReal from res_main_while0b_v31 V) (ix2 ⟨l % 32, by omega⟩ ⟨n * 2 + l / 32, by omega⟩)
        else (show S32x13248.Idx → EReal from V (Proc.devRef .tc main_v4_11)) (ix2 ⟨l % 32, by omega⟩ ⟨n * 64 + (l / 32 - 2), by omega⟩) := by
  pointwise [res_main_while0b_v36]

/-- The gates. -/
theorem v61_at (b : Fin 32) (n : Fin 207) (l : Fin 128) :
    (show S32x207x128.Idx → EReal from res_main_while0b_v61 V) (ix3 b n l)
      = sigmoid ((∑ x : Fin 198, entry (support V) (fun m => (show S207x2112.Idx → EReal from res_main_while0b_v36 V) (ix2 m ⟨x / 3 * 32 + b, by omega⟩)) (x % 3) n * (show S198x128.Idx → EReal from V (Proc.devRef .tc main_v4_2)) (ix2 x l))
          + (show S128.Idx → EReal from V (Proc.devRef .tc main_v4_3)) (ix1 l)) := by
  pointwise [res_main_while0b_v61, res_main_while0b_v38, res_main_while0b_v37]
  rfl

/-- The candidate's features: the hidden state enters multiplied by the reset gate. -/
theorem v71_at (n : Fin 207) (l : Fin 2112) :
    (show S207x2112.Idx → EReal from res_main_while0b_v71 V) (ix2 n l)
      = if _ : l.val / 32 < 2 then (show S32x414.Idx → EReal from res_main_while0b_v31 V) (ix2 ⟨l % 32, by omega⟩ ⟨n * 2 + l / 32, by omega⟩)
        else (show S32x207x128.Idx → EReal from res_main_while0b_v61 V) (ix3 ⟨l % 32, by omega⟩ n ⟨(n * 64 + (l / 32 - 2)) % 64, by omega⟩)
          * (show S32x13248.Idx → EReal from V (Proc.devRef .tc main_v4_11)) (ix2 ⟨l % 32, by omega⟩ ⟨n * 64 + (l / 32 - 2), by omega⟩) := by
  pointwise [res_main_while0b_v71]

/-- The new hidden state. -/
theorem v95_at (b : Fin 32) (l : Fin 13248) :
    (show S32x13248.Idx → EReal from res_main_while0b_v95 V) (ix2 b l)
      = (show S32x207x128.Idx → EReal from res_main_while0b_v61 V) (ix3 b ⟨l / 64, by omega⟩ ⟨64 + l % 64, by omega⟩)
            * (show S32x13248.Idx → EReal from V (Proc.devRef .tc main_v4_11)) (ix2 b l)
          + (1 - (show S32x207x128.Idx → EReal from res_main_while0b_v61 V) (ix3 b ⟨l / 64, by omega⟩ ⟨64 + l % 64, by omega⟩))
            * Ideal.tanh ((∑ x : Fin 198, entry (support V) (fun m => (show S207x2112.Idx → EReal from res_main_while0b_v71 V) (ix2 m ⟨x / 3 * 32 + b, by omega⟩)) (x % 3) ⟨(b * 207 + l / 64) % 207, by omega⟩
                  * (show S198x64.Idx → EReal from V (Proc.devRef .tc main_v4_4)) (ix2 x ⟨l % 64, by omega⟩))
                + (show S64.Idx → EReal from V (Proc.devRef .tc main_v4_5)) (ix1 ⟨l % 64, by omega⟩)) := by
  pointwise [res_main_while0b_v95, res_main_while0b_v73, res_main_while0b_v72, res_main_while0b_v65]
  rfl

end Cert.Dcgru.Ref

end
-- ==== Proof.RefCell0.lean ====
/-
  One trip of the reference's scan computes the model's update of the first layer: the stacked features are the inputs and
  the hidden state, the two gate columns the two gates, and the new hidden state the cell.
-/
module

public import proofs.«01_k».proof.Proof.RefCell
public import proofs.«01_k».proof.Proof.RefRead0

@[expose] public section

set_option maxRecDepth 65536
set_option maxHeartbeats 1000000

noncomputable section

namespace Cert.Dcgru.Ref

open Idealize.ShloMosaic Idealize.ShloMosaic.TcCoe Cert.ReferenceIdeal Cert.ReferenceIdeal.Gen Cert.ReferenceIdeal.Value

variable (V : Valuation τ sig (Elt Ideal))

/-- The layer's input signals. -/
abbrev in0 (b : Fin 32) : Fin 2 → Signal := fun i m => (show S32x414.Idx → EReal from res_main_while0b_v31 V) (ix2 b ⟨m * 2 + i, by omega⟩)

/-- The layer's hidden state before the trip. -/
abbrev hid0 (b : Fin 32) : Fin 64 → Signal := fun u m => (show S32x13248.Idx → EReal from V (Proc.devRef .tc main_v4_11)) (ix2 b ⟨m * 64 + u, by omega⟩)

/-- The layer's parameters, as the scan carries them. -/
abbrev par0 : Layer 2 :=
  layer 2 (fun r o => (show S198x128.Idx → EReal from V (Proc.devRef .tc main_v4_2)) (ix2 r o)) (fun o => (show S128.Idx → EReal from V (Proc.devRef .tc main_v4_3)) (ix1 o)) (fun r o => (show S198x64.Idx → EReal from V (Proc.devRef .tc main_v4_4)) (ix2 r o)) (fun o => (show S64.Idx → EReal from V (Proc.devRef .tc main_v4_5)) (ix1 o))

theorem stack0_in (b : Fin 32) (i : Fin 2) (m : Fin 207) :
    (show S207x2112.Idx → EReal from res_main_while0b_v36 V) (ix2 m ⟨(Fin.castAdd 64 i).val * 32 + b, by simp only [Fin.val_castAdd]; omega⟩) = in0 V b i m := by
  rw [v36_at, dif_pos (by simp only [Fin.val_castAdd]; omega)]
  refine congrArg ((show S32x414.Idx → EReal from res_main_while0b_v31 V)) (congrArg₂ ix2 (Fin.ext ?_) (Fin.ext ?_)) <;> simp only [Fin.val_castAdd] <;> omega

theorem stack0_hid (b : Fin 32) (u : Fin 64) (m : Fin 207) :
    (show S207x2112.Idx → EReal from res_main_while0b_v36 V) (ix2 m ⟨(Fin.natAdd 2 u).val * 32 + b, by simp only [Fin.val_natAdd]; omega⟩) = hid0 V b u m := by
  rw [v36_at, dif_neg (by simp only [Fin.val_natAdd]; omega)]
  refine congrArg ((show S32x13248.Idx → EReal from V (Proc.devRef .tc main_v4_11))) (congrArg₂ ix2 (Fin.ext ?_) (Fin.ext ?_)) <;> simp only [Fin.val_natAdd] <;> omega

/-- The two gates. -/
theorem gate0_at (b : Fin 32) (n : Fin 207) (g : Fin 2) (v : Fin 64) :
    (show S32x207x128.Idx → EReal from res_main_while0b_v61 V) (ix3 b n ⟨g * 64 + v, by omega⟩) = gate (par0 V) (support V) (in0 V b) (hid0 V b) g v n := by
  rw [v61_at]
  have ex := stack0_in V b
  have eh := stack0_hid V b
  unfold par0
  generalize in0 V b = x at ex ⊢
  generalize hid0 V b = h at eh ⊢
  generalize (show S207x2112.Idx → EReal from res_main_while0b_v36 V) = A at ex eh ⊢
  generalize (show S198x128.Idx → EReal from V (Proc.devRef .tc main_v4_2)) = W
  generalize (show S128.Idx → EReal from V (Proc.devRef .tc main_v4_3)) = β
  generalize (show S198x64.Idx → EReal from V (Proc.devRef .tc main_v4_4)) = Wc
  generalize (show S64.Idx → EReal from V (Proc.devRef .tc main_v4_5)) = bc
  generalize support V = S
  exact gate_of_stack (I := 2) S x h (fun r o => W (ix2 r o)) (fun o => β (ix1 o)) (fun r o => Wc (ix2 r o)) (fun o => bc (ix1 o)) b
    (fun m l => A (ix2 m l)) ex eh g v n

theorem restack0_in (b : Fin 32) (i : Fin 2) (m : Fin 207) :
    (show S207x2112.Idx → EReal from res_main_while0b_v71 V) (ix2 m ⟨(Fin.castAdd 64 i).val * 32 + b, by simp only [Fin.val_castAdd]; omega⟩) = in0 V b i m := by
  rw [v71_at, dif_pos (by simp only [Fin.val_castAdd]; omega)]
  refine congrArg ((show S32x414.Idx → EReal from res_main_while0b_v31 V)) (congrArg₂ ix2 (Fin.ext ?_) (Fin.ext ?_)) <;> simp only [Fin.val_castAdd] <;> omega

/-- The candidate's hidden features: the hidden state times the reset gate. -/
theorem restack0_hid (b : Fin 32) (u : Fin 64) (m : Fin 207) :
    (show S207x2112.Idx → EReal from res_main_while0b_v71 V) (ix2 m ⟨(Fin.natAdd 2 u).val * 32 + b, by simp only [Fin.val_natAdd]; omega⟩)
      = gate (par0 V) (support V) (in0 V b) (hid0 V b) 0 u m * hid0 V b u m := by
  rw [v71_at, dif_neg (by simp only [Fin.val_natAdd]; omega), ← gate0_at]
  refine congrArg₂ (· * ·) (congrArg ((show S32x207x128.Idx → EReal from res_main_while0b_v61 V)) (congr (congrArg₂ ix3 (Fin.ext ?_) rfl) (Fin.ext ?_)))
    (congrArg ((show S32x13248.Idx → EReal from V (Proc.devRef .tc main_v4_11))) (congrArg₂ ix2 (Fin.ext ?_) (Fin.ext ?_))) <;> simp only [Fin.val_natAdd, Fin.val_zero] <;> omega

/-- The new hidden state. -/
theorem cell0_at (b : Fin 32) (n : Fin 207) (u : Fin 64) :
    (show S32x13248.Idx → EReal from res_main_while0b_v95 V) (ix2 b ⟨n * 64 + u, by omega⟩) = cell (par0 V) (support V) (in0 V b) (hid0 V b) u n := by
  rw [v95_at]
  have e1 : (show S32x207x128.Idx → EReal from res_main_while0b_v61 V) (ix3 b ⟨(n.val * 64 + u.val) / 64, by omega⟩ ⟨64 + (n.val * 64 + u.val) % 64, by omega⟩)
      = gate (par0 V) (support V) (in0 V b) (hid0 V b) 1 u n := by
    rw [← gate0_at]
    refine congrArg ((show S32x207x128.Idx → EReal from res_main_while0b_v61 V)) (congr (congrArg₂ ix3 rfl (Fin.ext ?_)) (Fin.ext ?_)) <;> simp only [Fin.val_one] <;> omega
  have eu : (⟨(n.val * 64 + u.val) % 64, by omega⟩ : Fin 64) = u := Fin.ext (by dsimp only; omega)
  have en : (⟨(b.val * 207 + (n.val * 64 + u.val) / 64) % 207, by omega⟩ : Fin 207) = n := Fin.ext (by dsimp only; omega)
  have eh : (show S32x13248.Idx → EReal from V (Proc.devRef .tc main_v4_11)) (ix2 b ⟨n * 64 + u, by omega⟩) = hid0 V b u n := rfl
  rw [e1, eu, en, eh]
  have rx := restack0_in V b
  have rh := restack0_hid V b
  clear e1 eu en eh
  unfold par0 at rh ⊢
  generalize in0 V b = x at rx rh ⊢
  generalize hid0 V b = h at rh ⊢
  generalize (show S207x2112.Idx → EReal from res_main_while0b_v71 V) = A at rx rh ⊢
  generalize (show S198x128.Idx → EReal from V (Proc.devRef .tc main_v4_2)) = W at rh ⊢
  generalize (show S128.Idx → EReal from V (Proc.devRef .tc main_v4_3)) = β at rh ⊢
  generalize (show S198x64.Idx → EReal from V (Proc.devRef .tc main_v4_4)) = Wc at rh ⊢
  generalize (show S64.Idx → EReal from V (Proc.devRef .tc main_v4_5)) = bc at rh ⊢
  generalize support V = S at rh ⊢
  exact cell_of_stack (I := 2) S x h (fun r o => W (ix2 r o)) (fun o => β (ix1 o)) (fun r o => Wc (ix2 r o)) (fun o => bc (ix1 o)) b
    (fun m l => A (ix2 m l)) rx rh u n

end Cert.Dcgru.Ref

end
-- ==== Proof.RefRead1.lean ====
/-
  One trip of the reference's scan, the second layer, read at an index: the stacked features, the gates and the new hidden
  state.
-/
module

public import proofs.«01_k».proof.Proof.RefConv
public import proofs.«01_k».proof.Proof.Gen.ReferenceIdeal.Run

@[expose] public section

set_option maxRecDepth 65536
set_option maxHeartbeats 1000000

noncomputable section

namespace Cert.Dcgru.Ref

open Idealize.ShloMosaic Idealize.ShloMosaic.TcCoe Cert.ReferenceIdeal Cert.ReferenceIdeal.Gen Cert.ReferenceIdeal.Value

variable (V : Valuation τ sig (Elt Ideal))

/-- The gates' features: column `32·f + b` is feature `f` of batch element `b`, the inputs before the hidden state. -/
theorem v100_at (n : Fin 207) (l : Fin 4096) :
    (show S207x4096.Idx → EReal from res_main_while0b_v100 V) (ix2 n l)
      = if _ : l.val / 32 < 64 then (show S32x13248.Idx → EReal from res_main_while0b_v95 V) (ix2 ⟨l % 32, by omega⟩ ⟨n * 64 + l / 32, by omega⟩)
        else (show S32x13248.Idx → EReal from V (Proc.devRef .tc main_v4_12)) (ix2 ⟨l % 32, by omega⟩ ⟨n * 64 + (l / 32 - 64), by omega⟩) := by
  pointwise [res_main_while0b_v100]

/-- The gates. -/
theorem v125_at (b : Fin 32) (n : Fin 207) (l : Fin 128) :
    (show S32x207x128.Idx → EReal from res_main_while0b_v125 V) (ix3 b n l)
      = sigmoid ((∑ x : Fin 384, entry (support V) (fun m => (show S207x4096.Idx → EReal from res_main_while0b_v100 V) (ix2 m ⟨x / 3 * 32 + b, by omega⟩)) (x % 3) n * (show S384x128.Idx → EReal from V (Proc.devRef .tc main_v4_6)) (ix2 x l))
          + (show S128.Idx → EReal from V (Proc.devRef .tc main_v4_7)) (ix1 l)) := by
  pointwise [res_main_while0b_v125, res_main_while0b_v102, res_main_while0b_v101]
  rfl

/-- The candidate's features: the hidden state enters multiplied by the reset gate. -/
theorem v135_at (n : Fin 207) (l : Fin 4096) :
    (show S207x4096.Idx → EReal from res_main_while0b_v135 V) (ix2 n l)
      = if _ : l.val / 32 < 64 then (show S32x13248.Idx → EReal from res_main_while0b_v95 V) (ix2 ⟨l % 32, by omega⟩ ⟨n * 64 + l / 32, by omega⟩)
        else (show S32x207x128.Idx → EReal from res_main_while0b_v125 V) (ix3 ⟨l % 32, by omega⟩ n ⟨(n * 64 + (l / 32 - 64)) % 64, by omega⟩)
          * (show S32x13248.Idx → EReal from V (Proc.devRef .tc main_v4_12)) (ix2 ⟨l % 32, by omega⟩ ⟨n * 64 + (l / 32 - 64), by omega⟩) := by
  pointwise [res_main_while0b_v135]

/-- The new hidden state. -/
theorem v159_at (b : Fin 32) (l : Fin 13248) :
    (show S32x13248.Idx → EReal from res_main_while0b_v159 V) (ix2 b l)
      = (show S32x207x128.Idx → EReal from res_main_while0b_v125 V) (ix3 b ⟨l / 64, by omega⟩ ⟨64 + l % 64, by omega⟩)
            * (show S32x13248.Idx → EReal from V (Proc.devRef .tc main_v4_12)) (ix2 b l)
          + (1 - (show S32x207x128.Idx → EReal from res_main_while0b_v125 V) (ix3 b ⟨l / 64, by omega⟩ ⟨64 + l % 64, by omega⟩))
            * Ideal.tanh ((∑ x : Fin 384, entry (support V) (fun m => (show S207x4096.Idx → EReal from res_main_while0b_v135 V) (ix2 m ⟨x / 3 * 32 + b, by omega⟩)) (x % 3) ⟨(b * 207 + l / 64) % 207, by omega⟩
                  * (show S384x64.Idx → EReal from V (Proc.devRef .tc main_v4_8)) (ix2 x ⟨l % 64, by omega⟩))
                + (show S64.Idx → EReal from V (Proc.devRef .tc main_v4_9)) (ix1 ⟨l % 64, by omega⟩)) := by
  pointwise [res_main_while0b_v159, res_main_while0b_v137, res_main_while0b_v136, res_main_while0b_v129]
  rfl

end Cert.Dcgru.Ref

end
-- ==== Proof.RefCell1.lean ====
/-
  One trip of the reference's scan computes the model's update of the second layer: the stacked features are the inputs and
  the hidden state, the two gate columns the two gates, and the new hidden state the cell.
-/
module

public import proofs.«01_k».proof.Proof.RefCell
public import proofs.«01_k».proof.Proof.RefRead1

@[expose] public section

set_option maxRecDepth 65536
set_option maxHeartbeats 1000000

noncomputable section

namespace Cert.Dcgru.Ref

open Idealize.ShloMosaic Idealize.ShloMosaic.TcCoe Cert.ReferenceIdeal Cert.ReferenceIdeal.Gen Cert.ReferenceIdeal.Value

variable (V : Valuation τ sig (Elt Ideal))

/-- The layer's input signals. -/
abbrev in1 (b : Fin 32) : Fin 64 → Signal := fun i m => (show S32x13248.Idx → EReal from res_main_while0b_v95 V) (ix2 b ⟨m * 64 + i, by omega⟩)

/-- The layer's hidden state before the trip. -/
abbrev hid1 (b : Fin 32) : Fin 64 → Signal := fun u m => (show S32x13248.Idx → EReal from V (Proc.devRef .tc main_v4_12)) (ix2 b ⟨m * 64 + u, by omega⟩)

/-- The layer's parameters, as the scan carries them. -/
abbrev par1 : Layer 64 :=
  layer 64 (fun r o => (show S384x128.Idx → EReal from V (Proc.devRef .tc main_v4_6)) (ix2 r o)) (fun o => (show S128.Idx → EReal from V (Proc.devRef .tc main_v4_7)) (ix1 o)) (fun r o => (show S384x64.Idx → EReal from V (Proc.devRef .tc main_v4_8)) (ix2 r o)) (fun o => (show S64.Idx → EReal from V (Proc.devRef .tc main_v4_9)) (ix1 o))

theorem stack1_in (b : Fin 32) (i : Fin 64) (m : Fin 207) :
    (show S207x4096.Idx → EReal from res_main_while0b_v100 V) (ix2 m ⟨(Fin.castAdd 64 i).val * 32 + b, by simp only [Fin.val_castAdd]; omega⟩) = in1 V b i m := by
  rw [v100_at, dif_pos (by simp only [Fin.val_castAdd]; omega)]
  refine congrArg ((show S32x13248.Idx → EReal from res_main_while0b_v95 V)) (congrArg₂ ix2 (Fin.ext ?_) (Fin.ext ?_)) <;> simp only [Fin.val_castAdd] <;> omega

theorem stack1_hid (b : Fin 32) (u : Fin 64) (m : Fin 207) :
    (show S207x4096.Idx → EReal from res_main_while0b_v100 V) (ix2 m ⟨(Fin.natAdd 64 u).val * 32 + b, by simp only [Fin.val_natAdd]; omega⟩) = hid1 V b u m := by
  rw [v100_at, dif_neg (by simp only [Fin.val_natAdd]; omega)]
  refine congrArg ((show S32x13248.Idx → EReal from V (Proc.devRef .tc main_v4_12))) (congrArg₂ ix2 (Fin.ext ?_) (Fin.ext ?_)) <;> simp only [Fin.val_natAdd] <;> omega

/-- The two gates. -/
theorem gate1_at (b : Fin 32) (n : Fin 207) (g : Fin 2) (v : Fin 64) :
    (show S32x207x128.Idx → EReal from res_main_while0b_v125 V) (ix3 b n ⟨g * 64 + v, by omega⟩) = gate (par1 V) (support V) (in1 V b) (hid1 V b) g v n := by
  rw [v125_at]
  have ex := stack1_in V b
  have eh := stack1_hid V b
  unfold par1
  generalize in1 V b = x at ex ⊢
  generalize hid1 V b = h at eh ⊢
  generalize (show S207x4096.Idx → EReal from res_main_while0b_v100 V) = A at ex eh ⊢
  generalize (show S384x128.Idx → EReal from V (Proc.devRef .tc main_v4_6)) = W
  generalize (show S128.Idx → EReal from V (Proc.devRef .tc main_v4_7)) = β
  generalize (show S384x64.Idx → EReal from V (Proc.devRef .tc main_v4_8)) = Wc
  generalize (show S64.Idx → EReal from V (Proc.devRef .tc main_v4_9)) = bc
  generalize support V = S
  exact gate_of_stack (I := 64) S x h (fun r o => W (ix2 r o)) (fun o => β (ix1 o)) (fun r o => Wc (ix2 r o)) (fun o => bc (ix1 o)) b
    (fun m l => A (ix2 m l)) ex eh g v n

theorem restack1_in (b : Fin 32) (i : Fin 64) (m : Fin 207) :
    (show S207x4096.Idx → EReal from res_main_while0b_v135 V) (ix2 m ⟨(Fin.castAdd 64 i).val * 32 + b, by simp only [Fin.val_castAdd]; omega⟩) = in1 V b i m := by
  rw [v135_at, dif_pos (by simp only [Fin.val_castAdd]; omega)]
  refine congrArg ((show S32x13248.Idx → EReal from res_main_while0b_v95 V)) (congrArg₂ ix2 (Fin.ext ?_) (Fin.ext ?_)) <;> simp only [Fin.val_castAdd] <;> omega

/-- The candidate's hidden features: the hidden state times the reset gate. -/
theorem restack1_hid (b : Fin 32) (u : Fin 64) (m : Fin 207) :
    (show S207x4096.Idx → EReal from res_main_while0b_v135 V) (ix2 m ⟨(Fin.natAdd 64 u).val * 32 + b, by simp only [Fin.val_natAdd]; omega⟩)
      = gate (par1 V) (support V) (in1 V b) (hid1 V b) 0 u m * hid1 V b u m := by
  rw [v135_at, dif_neg (by simp only [Fin.val_natAdd]; omega), ← gate1_at]
  refine congrArg₂ (· * ·) (congrArg ((show S32x207x128.Idx → EReal from res_main_while0b_v125 V)) (congr (congrArg₂ ix3 (Fin.ext ?_) rfl) (Fin.ext ?_)))
    (congrArg ((show S32x13248.Idx → EReal from V (Proc.devRef .tc main_v4_12))) (congrArg₂ ix2 (Fin.ext ?_) (Fin.ext ?_))) <;> simp only [Fin.val_natAdd, Fin.val_zero] <;> omega

/-- The new hidden state. -/
theorem cell1_at (b : Fin 32) (n : Fin 207) (u : Fin 64) :
    (show S32x13248.Idx → EReal from res_main_while0b_v159 V) (ix2 b ⟨n * 64 + u, by omega⟩) = cell (par1 V) (support V) (in1 V b) (hid1 V b) u n := by
  rw [v159_at]
  have e1 : (show S32x207x128.Idx → EReal from res_main_while0b_v125 V) (ix3 b ⟨(n.val * 64 + u.val) / 64, by omega⟩ ⟨64 + (n.val * 64 + u.val) % 64, by omega⟩)
      = gate (par1 V) (support V) (in1 V b) (hid1 V b) 1 u n := by
    rw [← gate1_at]
    refine congrArg ((show S32x207x128.Idx → EReal from res_main_while0b_v125 V)) (congr (congrArg₂ ix3 rfl (Fin.ext ?_)) (Fin.ext ?_)) <;> simp only [Fin.val_one] <;> omega
  have eu : (⟨(n.val * 64 + u.val) % 64, by omega⟩ : Fin 64) = u := Fin.ext (by dsimp only; omega)
  have en : (⟨(b.val * 207 + (n.val * 64 + u.val) / 64) % 207, by omega⟩ : Fin 207) = n := Fin.ext (by dsimp only; omega)
  have eh : (show S32x13248.Idx → EReal from V (Proc.devRef .tc main_v4_12)) (ix2 b ⟨n * 64 + u, by omega⟩) = hid1 V b u n := rfl
  rw [e1, eu, en, eh]
  have rx := restack1_in V b
  have rh := restack1_hid V b
  clear e1 eu en eh
  unfold par1 at rh ⊢
  generalize in1 V b = x at rx rh ⊢
  generalize hid1 V b = h at rh ⊢
  generalize (show S207x4096.Idx → EReal from res_main_while0b_v135 V) = A at rx rh ⊢
  generalize (show S384x128.Idx → EReal from V (Proc.devRef .tc main_v4_6)) = W at rh ⊢
  generalize (show S128.Idx → EReal from V (Proc.devRef .tc main_v4_7)) = β at rh ⊢
  generalize (show S384x64.Idx → EReal from V (Proc.devRef .tc main_v4_8)) = Wc at rh ⊢
  generalize (show S64.Idx → EReal from V (Proc.devRef .tc main_v4_9)) = bc at rh ⊢
  generalize support V = S at rh ⊢
  exact cell_of_stack (I := 64) S x h (fun r o => W (ix2 r o)) (fun o => β (ix1 o)) (fun r o => Wc (ix2 r o)) (fun o => bc (ix1 o)) b
    (fun m l => A (ix2 m l)) rx rh u n

end Cert.Dcgru.Ref

end
-- ==== Proof.RefEntry.lean ====
/-
  What the reference's scan starts from: its arguments, the inputs with time before batch, the zero hidden states, and the
  counter at zero.
-/
module

public import proofs.«01_k».proof.Proof.RefConv
public import proofs.«01_k».proof.Proof.Gen.ReferenceIdeal.Run
public import Idealize.ShloMosaic.Lib.StableHlo.ReadAt

@[expose] public section

set_option maxRecDepth 65536
set_option maxHeartbeats 1000000

noncomputable section

namespace Cert.Dcgru.Ref

open Idealize.ShloMosaic Idealize.ShloMosaic.TcCoe Idealize.ShloMosaic.StableHlo
open Cert.ReferenceIdeal Cert.ReferenceIdeal.Gen Cert.ReferenceIdeal.Value

variable (m : (ℓ : Loc nD τ sig) → Buf (Elt Ideal) ℓ) (c : Dev nD)

/-- The reference program's arguments. -/
def args : Args where
  x b t n i := (show S32x12x207x2.Idx → EReal from m (c, Proc.tc.devRef main_arg0)) (ix4 b t n i)
  len b := (show S32.Idx → BitVec 32 from m (c, Proc.tc.devRef main_arg1)) (ix1 b)
  S n k := (show S1x207x207.Idx → EReal from m (c, Proc.tc.devRef main_arg2)) (ix3 0 n k)
  Wg0 r o := (show S198x128.Idx → EReal from m (c, Proc.tc.devRef main_arg3)) (ix2 r o)
  bg0 o := (show S128.Idx → EReal from m (c, Proc.tc.devRef main_arg4)) (ix1 o)
  Wc0 r o := (show S198x64.Idx → EReal from m (c, Proc.tc.devRef main_arg5)) (ix2 r o)
  bc0 o := (show S64.Idx → EReal from m (c, Proc.tc.devRef main_arg6)) (ix1 o)
  Wg1 r o := (show S384x128.Idx → EReal from m (c, Proc.tc.devRef main_arg7)) (ix2 r o)
  bg1 o := (show S128.Idx → EReal from m (c, Proc.tc.devRef main_arg8)) (ix1 o)
  Wc1 r o := (show S384x64.Idx → EReal from m (c, Proc.tc.devRef main_arg9)) (ix2 r o)
  bc1 o := (show S64.Idx → EReal from m (c, Proc.tc.devRef main_arg10)) (ix1 o)
  Wfc u q := (show S64x5.Idx → EReal from m (c, Proc.tc.devRef main_arg11)) (ix2 u q)
  bfc q := (show S5.Idx → EReal from m (c, Proc.tc.devRef main_arg12)) (ix1 q)

/-- The carried buffers before trip `k`. -/
abbrev before (k : ℕ) : Valuation τ sig (Elt Ideal) := STEP^[k] (entryContents preI m c)

/-- A buffer no trip changes holds what the scan started from. -/
theorem kept (r : Ref sig .tc) (h : ∀ V : Valuation τ sig (Elt Ideal), STEP V (Proc.devRef .tc r) = V (Proc.devRef .tc r)) (k : ℕ) :
    before m c k (Proc.devRef .tc r) = entryContents preI m c (Proc.devRef .tc r) := by
  induction k with
  | zero => rfl
  | succ k ih => exact ((congrFun (Function.iterate_succ_apply' STEP k _) _).trans (h _)).trans ih

/-- The inputs, with time before batch and node and feature on one axis. -/
theorem x_at (k : ℕ) (j : Fin 12) (b : Fin 32) (l : Fin 414) :
    (show S12x32x414.Idx → EReal from before m c k (Proc.devRef .tc main_v4_0)) (ix3 j b l)
      = (args m c).x b j ⟨l / 2, by omega⟩ ⟨l % 2, by omega⟩ := by
  rw [kept m c main_v4_0 STEP_main_v4_0]
  simp only [entryContents, afterL_cons, afterL_nil]
  after_reads_at
  rfl

/-- The support matrix and the parameters enter as the program was given them. -/
theorem entry_given :
    entryContents preI m c (Proc.devRef .tc main_v4_1) = m (c, Proc.tc.devRef main_arg2)
      ∧ entryContents preI m c (Proc.devRef .tc main_v4_2) = m (c, Proc.tc.devRef main_arg3)
      ∧ entryContents preI m c (Proc.devRef .tc main_v4_3) = m (c, Proc.tc.devRef main_arg4)
      ∧ entryContents preI m c (Proc.devRef .tc main_v4_4) = m (c, Proc.tc.devRef main_arg5)
      ∧ entryContents preI m c (Proc.devRef .tc main_v4_5) = m (c, Proc.tc.devRef main_arg6)
      ∧ entryContents preI m c (Proc.devRef .tc main_v4_6) = m (c, Proc.tc.devRef main_arg7)
      ∧ entryContents preI m c (Proc.devRef .tc main_v4_7) = m (c, Proc.tc.devRef main_arg8)
      ∧ entryContents preI m c (Proc.devRef .tc main_v4_8) = m (c, Proc.tc.devRef main_arg9)
      ∧ entryContents preI m c (Proc.devRef .tc main_v4_9) = m (c, Proc.tc.devRef main_arg10) := by
  refine ⟨?_, ?_, ?_, ?_, ?_, ?_, ?_, ?_, ?_⟩ <;> (simp only [entryContents, afterL_cons, afterL_nil]; after_reads_simp; rfl)

theorem S_at (k : ℕ) : support (before m c k) = (args m c).S := by
  unfold support
  rw [kept m c main_v4_1 STEP_main_v4_1, (entry_given m c).1]
  rfl

/-- The hidden states start from zero. -/
theorem zero_at (b : Fin 32) (l : Fin 13248) :
    (show S32x13248.Idx → EReal from entryContents preI m c (Proc.devRef .tc main_v4_11)) (ix2 b l) = 0
      ∧ (show S32x13248.Idx → EReal from entryContents preI m c (Proc.devRef .tc main_v4_12)) (ix2 b l) = 0 := by
  have e : broadcastInDim S32x13248 ![] bcast_S_S32x13248 (constant (F := Ideal) S_ FTy.f32 0#32) (ix2 b l) = 0 := by
    pointwise
  constructor <;> (simp only [entryContents, afterL_cons, afterL_nil]; after_reads_at; exact e)

/-- The counter before trip `k`. -/
theorem count_at (k : ℕ) : (show S_.Idx → BitVec 32 from before m c k (Proc.devRef .tc main_v4_10)) = fun _ => BitVec.ofNat 32 k := by
  induction k with
  | zero => exact ctr_entry m c
  | succ k ih =>
    refine (congrFun (Function.iterate_succ_apply' STEP k _) _).trans ((STEP_main_v4_10 _).trans ?_)
    funext i
    show IntOp.addi ((show S_.Idx → BitVec 32 from before m c k (Proc.devRef .tc main_v4_10)) i) 1#32 = _
    rw [ih]
    exact (BitVec.ofNat_add k 1).symm

end Cert.Dcgru.Ref

end
-- ==== Proof.RefSlab.lean ====
/-
  The counter's two uses in one trip of the reference's scan: it reads slab `k` of the inputs and writes slab `k` of the
  stacked outputs.
-/
module

public import proofs.«01_k».proof.Proof.RefEntry

@[expose] public section

set_option maxRecDepth 65536
set_option maxHeartbeats 1000000

noncomputable section

namespace Cert.Dcgru.Ref

open Idealize.ShloMosaic Idealize.ShloMosaic.TcCoe Idealize.ShloMosaic.StableHlo
open Cert.ReferenceIdeal Cert.ReferenceIdeal.Gen Cert.ReferenceIdeal.Value

variable (m : (ℓ : Loc nD τ sig) → Buf (Elt Ideal) ℓ) (c : Dev nD)

/-- The counter read as a start index. -/
theorem start_at (k : ℕ) (hk : k < 12) :
    ((show S_.Idx → BitVec 32 from before m c k (Proc.devRef .tc main_v4_10)) (Shape.Idx.first h_S_)).toInt = k := by
  rw [count_at]
  exact WordCmp.toInt_ofNat_of_lt (by omega)

/-- Reading one slab of a stack of twelve, at a slab number in range. -/
theorem take_slab (X : S12x32x414.Idx → EReal) (st : Fin 3 → Int) (h : S12x32x414.Slices (fun _ => 0) S1x32x414) (k : ℕ) (hk : k < 12)
    (h0 : st 0 = k) (h1 : st 1 = 0) (h2 : st 2 = 0) (b : Fin 32) (l : Fin 414) :
    Host.dynamicSlice S1x32x414 X st h (ix3 0 b l) = X (ix3 ⟨k, hk⟩ b l) := by
  have c0 : Host.clampedStart S12x32x414 S1x32x414 rfl st 0 = k := Host.clampedStart_of_le _ _ 0 k h0 (by show k + 1 ≤ 12; omega)
  have c1 : Host.clampedStart S12x32x414 S1x32x414 rfl st 1 = 0 := Host.clampedStart_of_le _ _ 1 0 h1 (by show 0 + 32 ≤ 32; omega)
  have c2 : Host.clampedStart S12x32x414 S1x32x414 rfl st 2 = 0 := Host.clampedStart_of_le _ _ 2 0 h2 (by show 0 + 414 ≤ 414; omega)
  rw [Host.dynamicSlice_apply]
  refine congrArg X (funext fun a => Fin.ext ?_)
  match a with
  | ⟨0, _⟩ => exact (congrArg (fun z => z + 0) c0).trans rfl
  | ⟨1, _⟩ => exact (congrArg (fun z => z + b.val) c1).trans (Nat.zero_add _)
  | ⟨2, _⟩ => exact (congrArg (fun z => z + l.val) c2).trans (Nat.zero_add _)

/-- A stack of one slab without its first axis. -/
theorem drop_slab (Y : S1x32x414.Idx → EReal) (h : S1x32x414.ShapeCasts S32x414) (b : Fin 32) (l : Fin 414) :
    shapeCast S32x414 Y h (ix2 b l) = Y (ix3 0 b l) := by
  pointwise

/-- Trip `k` takes slab `k` of the inputs. -/
theorem slab_at (k : ℕ) (hk : k < 12) (b : Fin 32) (l : Fin 414) :
    (show S32x414.Idx → EReal from res_main_while0b_v31 (before m c k)) (ix2 b l)
      = (args m c).x b ⟨k, hk⟩ ⟨l / 2, by omega⟩ ⟨l % 2, by omega⟩ := by
  have hs := start_at m c k hk
  refine Eq.trans ?_ (x_at m c k ⟨k, hk⟩ b l)
  unfold res_main_while0b_v31
  exact (drop_slab _ _ b l).trans (take_slab _ _ _ k hk hs rfl rfl b l)

/-- Writing one slab of a stack of twelve, at a slab number in range. -/
theorem put_slab (X : S12x32x13248.Idx → EReal) (U : S1x32x13248.Idx → EReal) (st : Fin 3 → Int) (k : ℕ) (hk : k < 12)
    (h0 : st 0 = k) (h1 : st 1 = 0) (h2 : st 2 = 0) (j : Fin 12) (b : Fin 32) (l : Fin 13248) :
    Host.dynamicUpdateSlice X U st updateFits_S12x32x13248_S1x32x13248 (ix3 j b l)
      = if j.val = k then U (ix3 0 b l) else X (ix3 j b l) := by
  have c0 : Host.clampedStart S12x32x13248 S1x32x13248 rfl st 0 = k := Host.clampedStart_of_le _ _ 0 k h0 (by show k + 1 ≤ 12; omega)
  have c1 : Host.clampedStart S12x32x13248 S1x32x13248 rfl st 1 = 0 := Host.clampedStart_of_le _ _ 1 0 h1 (by show 0 + 32 ≤ 32; omega)
  have c2 : Host.clampedStart S12x32x13248 S1x32x13248 rfl st 2 = 0 := Host.clampedStart_of_le _ _ 2 0 h2 (by show 0 + 13248 ≤ 13248; omega)
  rw [Host.dynamicUpdateSlice_apply]
  by_cases h : j.val = k
  · rw [if_pos h, dif_pos]
    · refine congrArg U (funext fun a => Fin.ext ?_)
      match a with
      | ⟨0, _⟩ => exact (congrArg (fun z => j.val - z) c0).trans (by show _ = 0; omega)
      | ⟨1, _⟩ => exact (congrArg (fun z => b.val - z) c1).trans rfl
      | ⟨2, _⟩ => exact (congrArg (fun z => l.val - z) c2).trans rfl
    · intro a
      match a with
      | ⟨0, _⟩ => exact c0.symm ▸ (show k ≤ j.val ∧ j.val < k + 1 by omega)
      | ⟨1, _⟩ => exact c1.symm ▸ (show 0 ≤ b.val ∧ b.val < 0 + 32 by omega)
      | ⟨2, _⟩ => exact c2.symm ▸ (show 0 ≤ l.val ∧ l.val < 0 + 13248 by omega)
  · rw [if_neg h, dif_neg]
    intro hin
    have := hin 0
    have hj : k ≤ j.val ∧ j.val < k + 1 := c0 ▸ this
    omega

/-- Trip `k` writes slab `k` of the stacked outputs. -/
theorem put_at (k : ℕ) (hk : k < 12) (j : Fin 12) (b : Fin 32) (l : Fin 13248) :
    (show S12x32x13248.Idx → EReal from before m c (k + 1) (Proc.devRef .tc main_v4_13)) (ix3 j b l)
      = if j.val = k then (show S32x13248.Idx → EReal from res_main_while0b_v159 (before m c k)) (ix2 b l)
        else (show S12x32x13248.Idx → EReal from before m c k (Proc.devRef .tc main_v4_13)) (ix3 j b l) := by
  refine (congrFun ((congrFun (Function.iterate_succ_apply' STEP k _) _).trans (STEP_main_v4_13 _)) _).trans ?_
  have hs := start_at m c k hk
  unfold before at hs ⊢
  generalize STEP^[k] (entryContents preI m c) = V at hs ⊢
  unfold step_main_v4_13
  generalize res_main_while0b_v159 V = R
  refine (put_slab _ _ _ k hk hs rfl rfl j b l).trans ?_
  refine if_congr Iff.rfl ?_ rfl
  show (broadcastInDim S1x32x13248 ![1, 2] bcast_S32x13248_S1x32x13248_1_2 (show S32x13248.Idx → EReal from R)) (ix3 0 b l) = _
  pointwise

end Cert.Dcgru.Ref

end
-- ==== Proof.RefLoop.lean ====
/-
  The reference's scan carries the model's states: before trip `k` the two hidden states are the model's before step `k`,
  and the stacked outputs hold the second layer's state after every step already done.
-/
module

public import proofs.«01_k».proof.Proof.RefCell0
public import proofs.«01_k».proof.Proof.RefCell1
public import proofs.«01_k».proof.Proof.RefSlab

@[expose] public section

set_option maxRecDepth 65536

noncomputable section

namespace Cert.Dcgru.Ref

open Idealize.ShloMosaic Idealize.ShloMosaic.TcCoe Idealize.ShloMosaic.StableHlo
open Cert.ReferenceIdeal Cert.ReferenceIdeal.Gen Cert.ReferenceIdeal.Value

variable (m : (ℓ : Loc nD τ sig) → Buf (Elt Ideal) ℓ) (c : Dev nD)

/-- The scan carries the first layer's parameters. -/
theorem par0_at (k : ℕ) : par0 (before m c k) = (args m c).L0 := by
  obtain ⟨-, e2, e3, e4, e5, -⟩ := entry_given m c
  unfold par0
  rw [kept m c main_v4_2 STEP_main_v4_2, kept m c main_v4_3 STEP_main_v4_3, kept m c main_v4_4 STEP_main_v4_4,
    kept m c main_v4_5 STEP_main_v4_5, e2, e3, e4, e5]
  rfl

/-- The scan carries the second layer's parameters. -/
theorem par1_at (k : ℕ) : par1 (before m c k) = (args m c).L1 := by
  obtain ⟨-, -, -, -, -, e6, e7, e8, e9⟩ := entry_given m c
  unfold par1
  rw [kept m c main_v4_6 STEP_main_v4_6, kept m c main_v4_7 STEP_main_v4_7, kept m c main_v4_8 STEP_main_v4_8,
    kept m c main_v4_9 STEP_main_v4_9, e6, e7, e8, e9]
  rfl

/-- The first layer's inputs in trip `k`. -/
theorem in0_at (k : ℕ) (hk : k < 12) (b : Fin 32) : in0 (before m c k) b = (args m c).inputs b k := by
  funext i n
  refine (slab_at m c k hk b _).trans ?_
  unfold Args.inputs
  rw [dif_pos hk]
  refine congrArg₂ ((args m c).x b ⟨k, hk⟩) (Fin.ext ?_) (Fin.ext ?_) <;> dsimp only <;> omega

/-- The model's states of batch element `b` before step `k`. -/
abbrev model (b : Fin 32) (k : ℕ) : (Fin 64 → Signal) × (Fin 64 → Signal) :=
  states (args m c).L0 (args m c).L1 (args m c).S ((args m c).inputs b) k

/-- What trip `k` computes for the first layer. -/
theorem trip0_at (k : ℕ) (hk : k < 12) (b : Fin 32) (h0 : hid0 (before m c k) b = (model m c b k).1) (n : Fin 207) (u : Fin 64) :
    (show S32x13248.Idx → EReal from res_main_while0b_v95 (before m c k)) (ix2 b ⟨n * 64 + u, by omega⟩) = (model m c b (k + 1)).1 u n := by
  rw [cell0_at, par0_at, S_at, in0_at m c k hk, h0]
  rfl

/-- What trip `k` computes for the second layer. -/
theorem trip1_at (k : ℕ) (hk : k < 12) (b : Fin 32) (h0 : hid0 (before m c k) b = (model m c b k).1)
    (h1 : hid1 (before m c k) b = (model m c b k).2) (n : Fin 207) (u : Fin 64) :
    (show S32x13248.Idx → EReal from res_main_while0b_v159 (before m c k)) (ix2 b ⟨n * 64 + u, by omega⟩) = (model m c b (k + 1)).2 u n := by
  have hin : in1 (before m c k) b = (model m c b (k + 1)).1 := funext fun u => funext fun n => trip0_at m c k hk b h0 n u
  rw [cell1_at, par1_at, S_at, hin, h1]
  rfl

/-- The carried hidden states are the model's. -/
theorem hid_at (b : Fin 32) : ∀ k ≤ 12, hid0 (before m c k) b = (model m c b k).1 ∧ hid1 (before m c k) b = (model m c b k).2
  | 0, _ => ⟨funext fun _ => funext fun _ => (zero_at m c b _).1, funext fun _ => funext fun _ => (zero_at m c b _).2⟩
  | k + 1, hk => by
    obtain ⟨h0, h1⟩ := hid_at b k (by omega)
    constructor <;> funext u n
    · exact (congrFun ((congrFun (Function.iterate_succ_apply' STEP k _) _).trans (STEP_main_v4_11 _)) _).trans (trip0_at m c k hk b h0 n u)
    · exact (congrFun ((congrFun (Function.iterate_succ_apply' STEP k _) _).trans (STEP_main_v4_12 _)) _).trans (trip1_at m c k hk b h0 h1 n u)

/-- The stacked outputs of the steps already done. -/
theorem out_at (b : Fin 32) (n : Fin 207) (u : Fin 64) (j : Fin 12) : ∀ k ≤ 12, j.val < k →
    (show S12x32x13248.Idx → EReal from before m c k (Proc.devRef .tc main_v4_13)) (ix3 j b ⟨n * 64 + u, by omega⟩)
      = (model m c b (j + 1)).2 u n
  | 0, _, h => absurd h (Nat.not_lt_zero _)
  | k + 1, hk, hj => by
    rw [put_at m c k hk]
    by_cases e : j.val = k
    · rw [if_pos e, e]
      exact trip1_at m c k hk b (hid_at m c b k (by omega)).1 (hid_at m c b k (by omega)).2 n u
    · rw [if_neg e]
      exact out_at b n u j k (by omega) (by omega)

end Cert.Dcgru.Ref

end
-- ==== Proof.RefGather.lean ====
/-
  The gather that picks each batch element's hidden state at its last relevant step, read at an index, and the words it
  starts from.
-/
module

public import proofs.«01_k».proof.Proof.Model
public import proofs.«01_k».proof.Proof.Gen.ReferenceIdeal

@[expose] public section

noncomputable section

namespace Cert.Dcgru.Ref

open Idealize.ShloMosaic Cert.ReferenceIdeal

/-- The gather's dimension numbers. -/
abbrev pick : GatherDims S32x12x13248 S32x2 S32x13248 := gather_S32x12x13248_S32x2_S32x13248_1_01_n_n_01_1_1113248

/-- Row `b`'s start word along operand axis `a` (batch or step) is entry `a` of the row. -/
theorem pick_start (idx : IVec S32x2 32) (b : Fin 32) (l : Fin 13248) :
    pick.start (ix2 b l) idx 0 = min (idx (ix2 b 0)).toInt.toNat 31 ∧ pick.start (ix2 b l) idx 1 = min (idx (ix2 b 1)).toInt.toNat 11 := by
  constructor
  · unfold GatherDims.start
    rw [dif_pos (show (0 : Fin 3) ∈ pick.startIndexMap by decide)]
    refine congrArg (fun i => min (idx i).toInt.toNat 31) (funext fun a => Fin.ext ?_)
    match a with
    | ⟨0, _⟩ => rfl
    | ⟨1, _⟩ => rfl
  · unfold GatherDims.start
    rw [dif_pos (show (1 : Fin 3) ∈ pick.startIndexMap by decide)]
    refine congrArg (fun i => min (idx i).toInt.toNat 11) (funext fun a => Fin.ext ?_)
    match a with
    | ⟨0, _⟩ => rfl
    | ⟨1, _⟩ => rfl

/-- The gather at an index whose row's start words are a batch element and a step. -/
theorem pick_at {α : Type} (X : S32x12x13248.Idx → α) (idx : IVec S32x2 32) (b : Fin 32) (l : Fin 13248) (t : Fin 12)
    (hb : (idx (ix2 b 0)).toInt.toNat = b) (ht : (idx (ix2 b 1)).toInt.toNat = t) :
    Host.gather pick X idx (ix2 b l) = X (ix3 b t l) := by
  unfold Host.gather
  refine congrArg X (funext fun a => Fin.ext ?_)
  have hs := pick_start idx b l
  show pick.start (ix2 b l) idx a + pick.batchCoord (ix2 b l) a + pick.offCoord (ix2 b l) a = _
  rw [pick.batchCoord_eq_zero _ _ (show a ∉ pick.operandBatchingDims from List.not_mem_nil)]
  match a with
  | ⟨0, _⟩ =>
    refine (congrArg₂ (fun y z => y + 0 + z) hs.1 (pick.offCoord_eq_zero _ _ (show (0 : Fin 3) ∉ pick.sKept by decide))).trans ?_
    show min _ 31 + 0 + 0 = b.val
    omega
  | ⟨1, _⟩ =>
    refine (congrArg₂ (fun y z => y + 0 + z) hs.2 (pick.offCoord_eq_zero _ _ (show (1 : Fin 3) ∉ pick.sKept by decide))).trans ?_
    show min _ 11 + 0 + 0 = t.val
    omega
  | ⟨2, _⟩ =>
    have h0 : pick.start (ix2 b l) idx 2 = 0 := by
      unfold GatherDims.start
      exact dif_neg (show (2 : Fin 3) ∉ pick.startIndexMap by decide)
    have h1 : pick.offCoord (ix2 b l) 2 = l := by
      unfold GatherDims.offCoord
      rw [dif_pos (show (2 : Fin 3) ∈ pick.sKept by decide)]
      rfl
    refine (congrArg₂ (fun y z => y + 0 + z) h0 h1).trans ?_
    show 0 + 0 + l.val = l.val
    omega

end Cert.Dcgru.Ref

end
-- ==== Proof.RefScore.lean ====
/-
  The reference's read-out: the second layer's state at the last relevant step, its positive part times the output
  weights, and the maximum over the nodes.
-/
module

public import proofs.«01_k».proof.Proof.RefGather
public import proofs.«01_k».proof.Proof.RefEntry

@[expose] public section

set_option maxRecDepth 65536
set_option maxHeartbeats 1000000

noncomputable section

namespace Cert.Dcgru.Ref

open Idealize.ShloMosaic Idealize.ShloMosaic.TcCoe Idealize.ShloMosaic.StableHlo
open Cert.ReferenceIdeal Cert.ReferenceIdeal.Gen Cert.ReferenceIdeal.Value

variable (V : Valuation τ sig (Elt Ideal))

/-- A word below the sign bit is not wrapped around: the select keeps it. -/
theorem unwrapped (w n : BitVec 32) (k : ℕ) (hw : w.toNat = k) (hk : k < 2 ^ 31) :
    (Scalar.select (IntOp.cmpi .slt w 0#32) (IntOp.addi w n) w).toInt.toNat = k := by
  have hs : IntOp.cmpi .slt w 0#32 = 0#1 := by
    rw [WordCmp.cmpi_slt_zero, WordCmp.ofBool_decide_eq_zero_iff]
    omega
  have e : Scalar.select (IntOp.cmpi .slt w 0#32) (IntOp.addi w n) w = w := by
    rw [hs]
    rfl
  rw [e, WordCmp.toInt_eq_toNat_of_lt_half (by omega), hw]
  rfl

/-- The class score of one batch element, from the stacked outputs at its last relevant step. -/
theorem scores_at (p : Fin 32) (q : Fin 5) (t : Fin 12) (H : Fin 64 → Signal)
    (ht : (IntOp.minsi 11#32 (IntOp.maxsi 0#32 (IntOp.subi ((show S32.Idx → BitVec 32 from V (Proc.devRef .tc main_arg1)) (ix1 p)) 1#32))).toNat = t)
    (hH : ∀ (n : Fin 207) (u : Fin 64),
      (show S12x32x13248.Idx → EReal from V (Proc.devRef .tc main_v4_13)) (ix3 t p ⟨n * 64 + u, by omega⟩) = H u n) :
    (show S32x5.Idx → EReal from out_main_v30 V) (ix2 p q)
      = score H (fun u => (show S64x5.Idx → EReal from V (Proc.devRef .tc main_arg11)) (ix2 u q))
          ((show S5.Idx → EReal from V (Proc.devRef .tc main_arg12)) (ix1 q)) := by
  pointwise [out_main_v30]
  unfold score
  rw [negInf_eq]
  refine congrArg (fun f => Finset.fold max ⊥ f Finset.univ) (funext fun n => congrArg (· + _)
    (Finset.sum_congr rfl fun u _ => congrArg (fun z => max z 0 * _) ?_))
  rw [← hH n u]
  refine (pick_at _ _ p ⟨n * 64 + u, by omega⟩ t ?_ ?_).trans ?_
  · pointwise
    exact unwrapped _ _ p (WordCmp.toNat_ofNat_of_lt (by omega)) (by omega)
  · pointwise
    exact unwrapped _ _ t ht (by omega)
  · pointwise

end Cert.Dcgru.Ref

end
-- ==== Proof.RefResult.lean ====
/-
  The reference's result: the model's class scores on its arguments.
-/
module

public import proofs.«01_k».proof.Proof.RefLoop
public import proofs.«01_k».proof.Proof.RefScore

@[expose] public section

noncomputable section

namespace Cert.Dcgru.Ref

open Idealize.ShloMosaic Idealize.ShloMosaic.TcCoe Idealize.ShloMosaic.StableHlo
open Cert.ReferenceIdeal Cert.ReferenceIdeal.Gen Cert.ReferenceIdeal.Value

variable (m : (ℓ : Loc nD τ sig) → Buf (Elt Ideal) ℓ) (c : Dev nD)

/-- One class score. -/
theorem result_at (p : Fin 32) (q : Fin 5) :
    (show S32x5.Idx → EReal from out_main_v30 (before m c 12)) (ix2 p q) = (args m c).result p q := by
  have hl := (args m c).last_lt p
  refine (scores_at (before m c 12) p q ⟨(args m c).last p, hl⟩ (model m c p ((args m c).last p + 1)).2 ?_ ?_).trans ?_
  · rw [show before m c 12 (Proc.devRef .tc main_arg1) = _ from iter_main_arg1 m c 12]
    rfl
  · intro n u
    exact out_at m c p n u ⟨(args m c).last p, hl⟩ 12 le_rfl hl
  · rw [show before m c 12 (Proc.devRef .tc main_arg11) = _ from iter_main_arg11 m c 12,
      show before m c 12 (Proc.devRef .tc main_arg12) = _ from iter_main_arg12 m c 12]
    rfl

/-- The reference's result. -/
theorem result_eq : out_main_v30 (before m c 12) = fun i : S32x5.Idx => (args m c).result (i 0) (i 1) := by
  funext i
  idx_vars i
  exact result_at m c i0 i1

end Cert.Dcgru.Ref

end
-- ==== Proof.Agreement.lean ====
/-
  Both programs compute the model's class scores: from memories that agree on the arguments, the same result. The
  reference also leaves its arguments as they were.
-/
module

public import proofs.«01_k».proof.Defs
public import proofs.«01_k».proof.Proof.KernelResult
public import proofs.«01_k».proof.Proof.RefResult
public import Idealize.ShloMosaic.Lib.Quiescent

@[expose] public section

noncomputable section

namespace Cert.Dcgru

open Idealize.ShloMosaic Idealize.ShloMosaic.TcCoe Idealize.SL.Sem

/-- The reference ends with its arguments unchanged and every semaphore at zero. -/
theorem referenceFrame : quiescent_ReferenceIdeal := fun m ρ _ =>
  (θ_run _ _ _).mono (fun r h => ⟨fun c => (h c).2, sem_eq_zero_of_no_sems (by decide) r.2⟩) (ReferenceIdeal.Value.run m ρ)

/-- The kernel and the reference agree. -/
theorem agree : algebraic_KernelIdeal_ReferenceIdeal := by
  intro m ρ m' ρ' _ hagree
  refine ⟨fun c => (args m c).scores, kernelRun m ρ,
    (θ_run _ _ _).mono (fun _ h c => ⟨(h c).1.trans ((Ref.result_eq m' c).trans ?_), (h c).2⟩) (ReferenceIdeal.Value.run m' ρ')⟩
  obtain ⟨h0, h1, h2, h3, h4, h5, h6, h7, h8, h9, h10, h11, h12⟩ := hagree c
  have e : Ref.args m' c = args m c := by
    simp only [Ref.args, args, Args.mk.injEq]
    exact ⟨funext fun b => funext fun t => funext fun n => funext fun i => congrFun h0 (ix4 b t n i),
      funext fun b => congrFun h1 (ix1 b), funext fun n => funext fun k => congrFun h2 (ix3 0 n k),
      funext fun r => funext fun o => congrFun h3 (ix2 r o), funext fun o => congrFun h4 (ix1 o),
      funext fun r => funext fun o => congrFun h5 (ix2 r o), funext fun o => congrFun h6 (ix1 o),
      funext fun r => funext fun o => congrFun h7 (ix2 r o), funext fun o => congrFun h8 (ix1 o),
      funext fun r => funext fun o => congrFun h9 (ix2 r o), funext fun o => congrFun h10 (ix1 o),
      funext fun r => funext fun o => congrFun h11 (ix2 r o), funext fun o => congrFun h12 (ix1 o)⟩
  rw [e]
  rfl

end Cert.Dcgru

end
-- ==== Proof.lean ====
/-
  The proof of the certificate's claim: the kernel, its ideal form and the reference run to the end and leave their
  arguments as they were, the ideal form is the kernel's own, and over the extended reals the ideal kernel and the
  reference compute the same class scores.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Agreement

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Dcgru.referenceFrame, trivial, Cert.Dcgru.agree⟩

end Cert.Proof

end
